-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![1, 4096, 8, 128]⟩ ⟨4, ![1, 32768, 8, 128]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 4096, 8, 128]⟩ ⟨4, ![1, 32768, 8, 128]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v18) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S1x256x1024 : Shape := ⟨3, ![1, 256, 1024]⟩
abbrev S1024x1024 : Shape := ⟨2, ![1024, 1024]⟩
abbrev S1x4096x8x128 : Shape := ⟨4, ![1, 4096, 8, 128]⟩
abbrev S_ : Shape := ⟨0, ![]⟩

class Facts : Prop where
  bcast_S_S1x256x1024 : S_.BroadcastsInDim S1x256x1024 (![] : Fin 0 → Fin S1x256x1024.rank)
  bcast_S_S1024x1024 : S_.BroadcastsInDim S1024x1024 (![] : Fin 0 → Fin S1024x1024.rank)
  bcast_S_S1x4096x8x128 : S_.BroadcastsInDim S1x4096x8x128 (![] : Fin 0 → Fin S1x4096x8x128.rank)

variable [Facts]

def fn {F : FTy → Type} [FloatOps F] (main_arg0 : FVec F S1x256x1024 .f32) (main_arg1 : FVec F S1024x1024 .f32) (main_arg2 : FVec F S1x4096x8x128 .f32) (main_arg3 : FVec F S1x4096x8x128 .f32) (main_arg4 : FVec F S1024x1024 .f32) : IVec S1x256x1024 1 × IVec S1024x1024 1 × IVec S1x4096x8x128 1 :=
  let main_v0 : FVec F S1x256x1024 .f32 := Host.absf main_arg0
  let main_cst : FVec F S_ .f32 := constant S_ .f32 0x7F800000#32
  let main_v1 : FVec F S1x256x1024 .f32 := broadcastInDim S1x256x1024 ![] bcast_S_S1x256x1024 main_cst
  let main_v2 : IVec S1x256x1024 1 := cmpf .olt main_v0 main_v1
  let main_v3 : FVec F S1024x1024 .f32 := Host.absf main_arg1
  let main_cst_0 : FVec F S_ .f32 := constant S_ .f32 0x7F800000#32
  let main_v4 : FVec F S1024x1024 .f32 := broadcastInDim S1024x1024 ![] bcast_S_S1024x1024 main_cst_0
  let main_v5 : IVec S1024x1024 1 := cmpf .olt main_v3 main_v4
  let main_v6 : FVec F S1x4096x8x128 .f32 := Host.absf main_arg2
  let main_cst_1 : FVec F S_ .f32 := constant S_ .f32 0x7F800000#32
  let main_v7 : FVec F S1x4096x8x128 .f32 := broadcastInDim S1x4096x8x128 ![] bcast_S_S1x4096x8x128 main_cst_1
  let main_v8 : IVec S1x4096x8x128 1 := cmpf .olt main_v6 main_v7
  (main_v2, main_v5, main_v8)
-- ==== Pre_finite_scores_ReferenceIdeal.lean ====
abbrev S1x256x1024 : Shape := ⟨3, ![1, 256, 1024]⟩
abbrev S1024x1024 : Shape := ⟨2, ![1024, 1024]⟩
abbrev S1x32768x8x128 : Shape := ⟨4, ![1, 32768, 8, 128]⟩
abbrev S_ : Shape := ⟨0, ![]⟩

class Facts : Prop where
  bcast_S_S1x256x1024 : S_.BroadcastsInDim S1x256x1024 (![] : Fin 0 → Fin S1x256x1024.rank)
  bcast_S_S1024x1024 : S_.BroadcastsInDim S1024x1024 (![] : Fin 0 → Fin S1024x1024.rank)
  bcast_S_S1x32768x8x128 : S_.BroadcastsInDim S1x32768x8x128 (![] : Fin 0 → Fin S1x32768x8x128.rank)

variable [Facts]

def fn {F : FTy → Type} [FloatOps F] (main_arg0 : FVec F S1x256x1024 .f32) (main_arg1 : FVec F S1024x1024 .f32) (main_arg2 : FVec F S1x32768x8x128 .f32) (main_arg3 : FVec F S1x32768x8x128 .f32) (main_arg4 : FVec F S1024x1024 .f32) : IVec S1x256x1024 1 × IVec S1024x1024 1 × IVec S1x32768x8x128 1 :=
  let main_v0 : FVec F S1x256x1024 .f32 := Host.absf main_arg0
  let main_cst : FVec F S_ .f32 := constant S_ .f32 0x7F800000#32
  let main_v1 : FVec F S1x256x1024 .f32 := broadcastInDim S1x256x1024 ![] bcast_S_S1x256x1024 main_cst
  let main_v2 : IVec S1x256x1024 1 := cmpf .olt main_v0 main_v1
  let main_v3 : FVec F S1024x1024 .f32 := Host.absf main_arg1
  let main_cst_0 : FVec F S_ .f32 := constant S_ .f32 0x7F800000#32
  let main_v4 : FVec F S1024x1024 .f32 := broadcastInDim S1024x1024 ![] bcast_S_S1024x1024 main_cst_0
  let main_v5 : IVec S1024x1024 1 := cmpf .olt main_v3 main_v4
  let main_v6 : FVec F S1x32768x8x128 .f32 := Host.absf main_arg2
  let main_cst_1 : FVec F S_ .f32 := constant S_ .f32 0x7F800000#32
  let main_v7 : FVec F S1x32768x8x128 .f32 := broadcastInDim S1x32768x8x128 ![] bcast_S_S1x32768x8x128 main_cst_1
  let main_v8 : IVec S1x32768x8x128 1 := cmpf .olt main_v6 main_v7
  (main_v2, main_v5, main_v8)
-- ==== Kernel.lean ====
abbrev S1x256x1024 : Shape := ⟨3, ![1, 256, 1024]⟩
abbrev S1024x1024 : Shape := ⟨2, ![1024, 1024]⟩
abbrev S1x4096x8x128 : Shape := ⟨4, ![1, 4096, 8, 128]⟩
abbrev S2x4096x128 : Shape := ⟨3, ![2, 4096, 128]⟩
abbrev S256x1024 : Shape := ⟨2, ![256, 1024]⟩
abbrev S4x256x384 : Shape := ⟨3, ![4, 256, 384]⟩
abbrev S4x3x256x384 : Shape := ⟨4, ![4, 3, 256, 384]⟩
abbrev S2x2 : Shape := ⟨2, ![2, 2]⟩
abbrev S4x3 : Shape := ⟨2, ![4, 3]⟩
abbrev S_ : Shape := ⟨0, ![]⟩
abbrev S1x1 : Shape := ⟨2, ![1, 1]⟩
abbrev S1x4096x128 : Shape := ⟨3, ![1, 4096, 128]⟩
abbrev S4096x128 : Shape := ⟨2, ![4096, 128]⟩
abbrev S1x4096x1x128 : Shape := ⟨4, ![1, 4096, 1, 128]⟩
abbrev S256x128 : Shape := ⟨2, ![256, 128]⟩
abbrev S256x4096 : Shape := ⟨2, ![256, 4096]⟩
abbrev S256 : Shape := ⟨1, ![256]⟩
abbrev S256x1 : Shape := ⟨2, ![256, 1]⟩
abbrev S1x256x128 : Shape := ⟨3, ![1, 256, 128]⟩
abbrev S1x256x1 : Shape := ⟨3, ![1, 256, 1]⟩
abbrev S1x1x256x384 : Shape := ⟨4, ![1, 1, 256, 384]⟩
abbrev S256x384 : Shape := ⟨2, ![256, 384]⟩
abbrev S1x256x384 : Shape := ⟨3, ![1, 256, 384]⟩
abbrev S1x256x258 : Shape := ⟨3, ![1, 256, 258]⟩
abbrev S256x258 : Shape := ⟨2, ![256, 258]⟩
abbrev S1x1x256x258 : Shape := ⟨4, ![1, 1, 256, 258]⟩
abbrev S256x256 : Shape := ⟨2, ![256, 256]⟩

abbrev nBuf : Space → Nat
  | .hbm => 6
  | .vmem => 9
  | .smem => 0
  | _ => 0

abbrev bufTy : (tb : Table) → Fin (tcTables nBuf tb) → BufTy
  | .hbm, ⟨0, _⟩ => ⟨S1x256x1024, .f32⟩
  | .hbm, ⟨1, _⟩ => ⟨S1024x1024, .f32⟩
  | .hbm, ⟨2, _⟩ => ⟨S1x4096x8x128, .f32⟩
  | .hbm, ⟨3, _⟩ => ⟨S1x4096x8x128, .f32⟩
  | .hbm, ⟨4, _⟩ => ⟨S1024x1024, .f32⟩
  | .hbm, ⟨5, _⟩ => ⟨S1x256x1024, .f32⟩
  | .local _ .vmem, ⟨0, _⟩ => ⟨S1x256x1024, .f32⟩
  | .local _ .vmem, ⟨1, _⟩ => ⟨S1024x1024, .f32⟩
  | .local _ .vmem, ⟨2, _⟩ => ⟨S1024x1024, .f32⟩
  | .local _ .vmem, ⟨3, _⟩ => ⟨S1x256x1024, .f32⟩
  | .local _ .vmem, ⟨4, _⟩ => ⟨S2x4096x128, .f32⟩
  | .local _ .vmem, ⟨5, _⟩ => ⟨S2x4096x128, .f32⟩
  | .local _ .vmem, ⟨6, _⟩ => ⟨S256x1024, .f32⟩
  | .local _ .vmem, ⟨7, _⟩ => ⟨S4x256x384, .bf16⟩
  | .local _ .vmem, ⟨8, _⟩ => ⟨S4x3x256x384, .bf16⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  (ofTc nBuf bufTy 1 32 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v7 : BitVec 32 := Scalar.xori v2 c2_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v10 : BitVec 32 := Scalar.xori v2 c4_i32
  let c1_i32_7 : BitVec 32 := 1#32
  let v11 : BitVec 32 := Scalar.muli v10 c1_i32_7
  let v12 : BitVec 32 := Scalar.addi c0_i32_8 v11
  v12.toNat
def k0_dev4 (d0 : Dev nD) : Nat :=
  let c0_i32_145 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_136 : BitVec 32 := 1#32
  let v119 : BitVec 32 := Scalar.xori v2 c1_i32_136
  let c1_i32_144 : BitVec 32 := 1#32
  let v120 : BitVec 32 := Scalar.muli v119 c1_i32_144
  let v121 : BitVec 32 := Scalar.addi c0_i32_145 v120
  v121.toNat
def k0_dev5 (d0 : Dev nD) : Nat :=
  let c0_i32_264 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_255 : BitVec 32 := 4#32
  let v214 : BitVec 32 := Scalar.xori v2 c4_i32_255
  let c1_i32_263 : BitVec 32 := 1#32
  let v215 : BitVec 32 := Scalar.muli v214 c1_i32_263
  let v216 : BitVec 32 := Scalar.addi c0_i32_264 v215
  v216.toNat
def k0_dev6 (d0 : Dev nD) : Nat :=
  let c0_i32_379 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_370 : BitVec 32 := 1#32
  let v309 : BitVec 32 := Scalar.xori v2 c1_i32_370
  let c1_i32_378 : BitVec 32 := 1#32
  let v310 : BitVec 32 := Scalar.muli v309 c1_i32_378
  let v311 : BitVec 32 := Scalar.addi c0_i32_379 v310
  v311.toNat
def k0_dev7 (d0 : Dev nD) : Nat :=
  let c0_i32_477 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_468 : BitVec 32 := 4#32
  let v392 : BitVec 32 := Scalar.xori v2 c4_i32_468
  let c1_i32_476 : BitVec 32 := 1#32
  let v393 : BitVec 32 := Scalar.muli v392 c1_i32_476
  let v394 : BitVec 32 := Scalar.addi c0_i32_477 v393
  v394.toNat
def k0_dev8 (d0 : Dev nD) : Nat :=
  let c0_i32_527 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_518 : BitVec 32 := 2#32
  let v426 : BitVec 32 := Scalar.xori v2 c2_i32_518
  let c1_i32_526 : BitVec 32 := 1#32
  let v427 : BitVec 32 := Scalar.muli v426 c1_i32_526
  let v428 : BitVec 32 := Scalar.addi c0_i32_527 v427
  v428.toNat
def k0_dev9 (d0 : Dev nD) : Nat :=
  let c0_i32_577 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_568 : BitVec 32 := 2#32
  let v460 : BitVec 32 := Scalar.xori v2 c2_i32_568
  let c1_i32_576 : BitVec 32 := 1#32
  let v461 : BitVec 32 := Scalar.muli v460 c1_i32_576
  let v462 : BitVec 32 := Scalar.addi c0_i32_577 v461
  v462.toNat
def k0_dev10 (d0 : Dev nD) : Nat :=
  let c0_i32_627 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_618 : BitVec 32 := 2#32
  let v494 : BitVec 32 := Scalar.xori v2 c2_i32_618
  let c1_i32_626 : BitVec 32 := 1#32
  let v495 : BitVec 32 := Scalar.muli v494 c1_i32_626
  let v496 : BitVec 32 := Scalar.addi c0_i32_627 v495
  v496.toNat
def k0_dev11 (d0 : Dev nD) : Nat :=
  let c0_i32_677 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_668 : BitVec 32 := 2#32
  let v528 : BitVec 32 := Scalar.xori v2 c2_i32_668
  let c1_i32_676 : BitVec 32 := 1#32
  let v529 : BitVec 32 := Scalar.muli v528 c1_i32_676
  let v530 : BitVec 32 := Scalar.addi c0_i32_677 v529
  v530.toNat
def k0_dev12 (d0 : Dev nD) : Nat :=
  let c0_i32_727 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_718 : BitVec 32 := 4#32
  let v562 : BitVec 32 := Scalar.xori v2 c4_i32_718
  let c1_i32_726 : BitVec 32 := 1#32
  let v563 : BitVec 32 := Scalar.muli v562 c1_i32_726
  let v564 : BitVec 32 := Scalar.addi c0_i32_727 v563
  v564.toNat
def k0_dev13 (d0 : Dev nD) : Nat :=
  let c0_i32_777 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_768 : BitVec 32 := 1#32
  let v596 : BitVec 32 := Scalar.xori v2 c1_i32_768
  let c1_i32_776 : BitVec 32 := 1#32
  let v597 : BitVec 32 := Scalar.muli v596 c1_i32_776
  let v598 : BitVec 32 := Scalar.addi c0_i32_777 v597
  v598.toNat
def k0_dev14 (d0 : Dev nD) : Nat :=
  let c0_i32_827 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_818 : BitVec 32 := 4#32
  let v630 : BitVec 32 := Scalar.xori v2 c4_i32_818
  let c1_i32_826 : BitVec 32 := 1#32
  let v631 : BitVec 32 := Scalar.muli v630 c1_i32_826
  let v632 : BitVec 32 := Scalar.addi c0_i32_827 v631
  v632.toNat
def k0_dev15 (d0 : Dev nD) : Nat :=
  let c0_i32_877 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_868 : BitVec 32 := 1#32
  let v664 : BitVec 32 := Scalar.xori v2 c1_i32_868
  let c1_i32_876 : BitVec 32 := 1#32
  let v665 : BitVec 32 := Scalar.muli v664 c1_i32_876
  let v666 : BitVec 32 := Scalar.addi c0_i32_877 v665
  v666.toNat
abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S1x256x1024 : Shape := ⟨3, ![1, 256, 1024]⟩
abbrev S1024x1024 : Shape := ⟨2, ![1024, 1024]⟩
abbrev S1x32768x8x128 : Shape := ⟨4, ![1, 32768, 8, 128]⟩
abbrev S1x256x8x128 : Shape := ⟨4, ![1, 256, 8, 128]⟩
abbrev S1x8x256x32768 : Shape := ⟨4, ![1, 8, 256, 32768]⟩
abbrev S_ : Shape := ⟨0, ![]⟩
abbrev S1x8x256 : Shape := ⟨3, ![1, 8, 256]⟩
abbrev S1x8x256x1 : Shape := ⟨4, ![1, 8, 256, 1]⟩
abbrev S1x8x128x256 : Shape := ⟨4, ![1, 8, 128, 256]⟩
abbrev S1x256x8x1 : Shape := ⟨4, ![1, 256, 8, 1]⟩

abbrev nBuf : Space → Nat
  | .hbm => 27
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S1024x1024, .f32⟩
  | .hbm, ⟨2, _⟩ => ⟨S1x32768x8x128, .f32⟩
  | .hbm, ⟨3, _⟩ => ⟨S1x32768x8x128, .f32⟩
  | .hbm, ⟨4, _⟩ => ⟨S1024x1024, .f32⟩
  | .hbm, ⟨5, _⟩ => ⟨S1x256x1024, .f32⟩
  | .hbm, ⟨6, _⟩ => ⟨S1x256x8x128, .f32⟩
  | .hbm, ⟨7, _⟩ => ⟨S1x8x256x32768, .f32⟩
  | .hbm, ⟨8, _⟩ => ⟨S_, .f32⟩
  | .hbm, ⟨9, _⟩ => ⟨S1x8x256x32768, .f32⟩
  | .hbm, ⟨10, _⟩ => ⟨S1x8x256x32768, .f32⟩
  | .hbm, ⟨11, _⟩ => ⟨S_, .f32⟩
  | .hbm, ⟨12, _⟩ => ⟨S1x8x256, .f32⟩
  | .hbm, ⟨13, _⟩ => ⟨S1x8x256x1, .f32⟩
  | .hbm, ⟨14, _⟩ => ⟨S1x8x256x32768, .f32⟩
  | .hbm, ⟨15, _⟩ => ⟨S1x8x256x32768, .f32⟩
  | .hbm, ⟨16, _⟩ => ⟨S1x8x256x32768, .f32⟩
  | .hbm, ⟨17, _⟩ => ⟨S_, .f32⟩
  | .hbm, ⟨18, _⟩ => ⟨S1x8x256, .f32⟩
  | .hbm, ⟨19, _⟩ => ⟨S1x8x256x1, .f32⟩
  | .hbm, ⟨20, _⟩ => ⟨S1x8x128x256, .f32⟩
  | .hbm, ⟨21, _⟩ => ⟨S1x256x8x128, .f32⟩
  | .hbm, ⟨22, _⟩ => ⟨S1x256x8x1, .f32⟩
  | .hbm, ⟨23, _⟩ => ⟨S1x256x8x128, .f32⟩
  | .hbm, ⟨24, _⟩ => ⟨S1x256x8x128, .f32⟩
  | .hbm, ⟨25, _⟩ => ⟨S1x256x1024, .f32⟩
  | .hbm, ⟨26, _⟩ => ⟨S1x256x1024, .f32⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Proof.KernelIdealProg.lean ====
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.Transfers

/-!
# The kernel's body as a sequence of phases

The printed body is one straight line of some four hundred operations. Here it is written again by its phases, each
indexed by what varies: the fetch, wait and arithmetic of head `h`, the transfer `n` and the accumulation `n` of the
butterfly exchange (`n = 4 r + g` for round `r` and group `g`), the final step of group `g`. `body_eq` says the two are
the same program.
-/

@[expose] public section

noncomputable section

namespace Cert.KernelIdeal.Ring

open Cert.KernelIdeal Cert.KernelIdeal.Gen
open Idealize.ShloMosaic
open Idealize.ShloMosaic.TcCoe
open Idealize.SL.Sem

variable {F : FTy → Type} [FloatOps F]

/-- The programs of the kernel's body. -/
abbrev ProgT (F : FTy → Type) : Type 1 := Prog (TpuEff nD τ sig (Elt F) Λ₀ .tc) PUnit

local notation "ℙ" => ProgT F

/-! ## The indices -/

/-- The group of head `h`, its place in the group, its staging slot. -/
def grp (h : Fin 8) : Fin 4 := ⟨h.val / 2, by omega⟩
def par (h : Fin 8) : Fin 2 := ⟨h.val % 2, by omega⟩
/-- The group and the round of transfer `n`. -/
def tg (n : Fin 12) : Fin 4 := ⟨n.val % 4, by omega⟩
def tr (n : Fin 12) : Fin 3 := ⟨n.val / 4, by omega⟩

/-! ## The regions -/

set_option backward.proofsInPublic true in
/-- Head `h` of a device's keys or values. -/
def rHead (h : Fin 8) : Rect S1x4096x8x128 :=
  Rect.unit (s := S1x4096x8x128) ![0, 0, h.val, 0] S1x4096x1x128.size (by revert h; decide)
set_option backward.proofsInPublic true in
/-- Staging slot `s` of the keys or values. -/
def rSlot (s : Fin 2) : Rect S2x4096x128 :=
  Rect.unit (s := S2x4096x128) ![s.val, 0, 0] S1x4096x128.size (by revert s; decide)
set_option backward.proofsInPublic true in
/-- Group `g` of the partial sums. -/
def rPack (g : Fin 4) : Rect S4x256x384 :=
  Rect.unit (s := S4x256x384) ![g.val, 0, 0] S1x256x384.size (by revert g; decide)
set_option backward.proofsInPublic true in
/-- The landing place of group `g` in round `r`. -/
def rRecv (g : Fin 4) (r : Fin 3) : Rect S4x3x256x384 :=
  Rect.unit (s := S4x3x256x384) ![g.val, r.val, 0, 0] S1x1x256x384.size (by revert g r; decide)
set_option backward.proofsInPublic true in
/-- The used columns of group `g`. -/
def rAcc (g : Fin 4) : Rect S4x256x384 :=
  Rect.unit (s := S4x256x384) ![g.val, 0, 0] S1x256x258.size (by revert g; decide)
set_option backward.proofsInPublic true in
/-- The used columns of a landing place. -/
def rIn (g : Fin 4) (r : Fin 3) : Rect S4x3x256x384 :=
  Rect.unit (s := S4x3x256x384) ![g.val, r.val, 0, 0] S1x1x256x258.size (by revert g r; decide)
set_option backward.proofsInPublic true in
/-- The weighted sum and the weight of the group's head `i`. -/
def rO (g : Fin 4) (i : Fin 2) : Rect S4x256x384 :=
  Rect.unit (s := S4x256x384) ![g.val, 0, 128 * i.val] S1x256x128.size (by revert g i; decide)
set_option backward.proofsInPublic true in
def rL (g : Fin 4) (i : Fin 2) : Rect S4x256x384 :=
  Rect.unit (s := S4x256x384) ![g.val, 0, 256 + i.val] S1x256x1.size (by revert g i; decide)
set_option backward.proofsInPublic true in
/-- The columns of head `h` among the queries. -/
def rQ (h : Fin 8) : Rect S256x1024 :=
  Rect.unit (s := S256x1024) ![0, 128 * h.val] S256x128.size (by revert h; decide)
set_option backward.proofsInPublic true in
/-- The columns of head `i` of group `g`, and of the group. -/
def rA (g : Fin 4) (i : Fin 2) : Rect S256x1024 :=
  Rect.unit (s := S256x1024) ![0, 256 * g.val + 128 * i.val] S256x128.size (by revert g i; decide)
set_option backward.proofsInPublic true in
def rG (g : Fin 4) : Rect S256x1024 :=
  Rect.unit (s := S256x1024) ![0, 256 * g.val] S256x256.size (by revert g; decide)
set_option backward.proofsInPublic true in
/-- The rows of group `g` of the output weights. -/
def rW (g : Fin 4) : Rect S1024x1024 :=
  Rect.unit (s := S1024x1024) ![256 * g.val, 0] S256x1024.size (by revert g; decide)
/-- A whole activation block, a whole weight matrix, the whole queries. -/
def rX : Rect S1x256x1024 := Rect.unit (s := S1x256x1024) ![0, 0, 0] S1x256x1024.size inb_S1x256x1024_S1x256x1024_0_0_0
def rWq : Rect S1024x1024 := Rect.unit (s := S1024x1024) ![0, 0] S1024x1024.size inb_S1024x1024_S1024x1024_0_0
def rQs : Rect S256x1024 := Rect.unit (s := S256x1024) ![0, 0] S256x1024.size inb_S256x1024_S256x1024_0_0

/-! ## The buffers -/

abbrev xM : Memref sig .tc .vmem S1x256x1024 .f32 := Memref.whole cc0_stg0_0
abbrev wqM : Memref sig .tc .vmem S1024x1024 .f32 := Memref.whole cc0_stg1_0
abbrev woM : Memref sig .tc .vmem S1024x1024 .f32 := Memref.whole cc0_stg2_0
abbrev kM : Memref sig .tc .hbm S1x4096x8x128 .f32 := Memref.whole main_arg2
abbrev vM : Memref sig .tc .hbm S1x4096x8x128 .f32 := Memref.whole main_arg3
abbrev outM : Memref sig .tc .vmem S1x256x1024 .f32 := Memref.whole cc0_stg3_0
abbrev kB : Memref sig .tc .vmem S2x4096x128 .f32 := Memref.whole cc0_scratch0
abbrev vB : Memref sig .tc .vmem S2x4096x128 .f32 := Memref.whole cc0_scratch1
abbrev qM : Memref sig .tc .vmem S256x1024 .f32 := Memref.whole cc0_scratch2
abbrev packM : Memref sig .tc .vmem S4x256x384 .bf16 := Memref.whole cc0_scratch3
abbrev recvM : Memref sig .tc .vmem S4x3x256x384 .bf16 := Memref.whole cc0_scratch4

/-- Head `h` of `A`; slot `s` of `B`. -/
def headOf (A : Memref sig .tc .hbm S1x4096x8x128 .f32) (h : Fin 8) : Memref sig .tc .hbm S4096x128 .f32 :=
  (A.slice (rHead h) (fun _ => rfl)).squeeze S4096x128 squeezes_S1x4096x1x128_S4096x128
def slotOf (B : Memref sig .tc .vmem S2x4096x128 .f32) (s : Fin 2) : Memref sig .tc .vmem S4096x128 .f32 :=
  (B.slice (rSlot s) (fun _ => rfl)).squeeze S4096x128 squeezes_S1x4096x128_S4096x128
def packOf (g : Fin 4) : Memref sig .tc .vmem S256x384 .bf16 :=
  (packM.slice (rPack g) (fun _ => rfl)).squeeze S256x384 squeezes_S1x256x384_S256x384
def recvOf (g : Fin 4) (r : Fin 3) : Memref sig .tc .vmem S256x384 .bf16 :=
  (recvM.slice (rRecv g r) (fun _ => rfl)).squeeze S256x384 squeezes_S1x1x256x384_S256x384

set_option backward.proofsInPublic true in
/-- The semaphore of the copy into slot `s` of the keys (`j = 0`) or the values (`j = 1`). -/
def kvSem (s j : Fin 2) : DmaSem sig :=
  ((cc0_scratch5.slice (Rect.unit (s := S2x2) ![s.val, j.val] S1x1.size (by revert s j; decide))).squeeze S_ squeezes_S1x1_S_).sem
set_option backward.proofsInPublic true in
/-- The semaphores of transfer `(g, r)`: of the block leaving, of the block arriving. -/
def sendSem (g : Fin 4) (r : Fin 3) : DmaSem sig :=
  ((cc0_scratch6.slice (Rect.unit (s := S4x3) ![g.val, r.val] S1x1.size (by revert g r; decide))).squeeze S_ squeezes_S1x1_S_).sem
set_option backward.proofsInPublic true in
def recvSem (g : Fin 4) (r : Fin 3) : DmaSem sig :=
  ((cc0_scratch7.slice (Rect.unit (s := S4x3) ![g.val, r.val] S1x1.size (by revert g r; decide))).squeeze S_ squeezes_S1x1_S_).sem
/-- The barrier. -/
abbrev barS : Sem sig := (SemArray.scalar (sig.barrier 0 rfl) : Sems sig S_).sem

/-! ## Where transfers go -/

/-- The device transfer `n` of device `d` goes to, as the program computes it. -/
def devN (d : Dev nD) : Fin 12 → Dev nD
  | 0 => ⟨k0_dev4 d, k0_dev4_lt d⟩ | 1 => ⟨k0_dev5 d, k0_dev5_lt d⟩ | 2 => ⟨k0_dev6 d, k0_dev6_lt d⟩
  | 3 => ⟨k0_dev7 d, k0_dev7_lt d⟩ | 4 => ⟨k0_dev8 d, k0_dev8_lt d⟩ | 5 => ⟨k0_dev9 d, k0_dev9_lt d⟩
  | 6 => ⟨k0_dev10 d, k0_dev10_lt d⟩ | 7 => ⟨k0_dev11 d, k0_dev11_lt d⟩ | 8 => ⟨k0_dev12 d, k0_dev12_lt d⟩
  | 9 => ⟨k0_dev13 d, k0_dev13_lt d⟩ | 10 => ⟨k0_dev14 d, k0_dev14_lt d⟩ | 11 => ⟨k0_dev15 d, k0_dev15_lt d⟩
/-- The device of barrier signal `b`, as the program computes it. -/
def devB (d : Dev nD) : Fin 3 → Dev nD
  | 0 => ⟨k0_dev1 d, k0_dev1_lt d⟩ | 1 => ⟨k0_dev2 d, k0_dev2_lt d⟩ | 2 => ⟨k0_dev3 d, k0_dev3_lt d⟩

/-! ## The evidence of whole words and packed rows -/

theorem packed_O (g : Fin 4) (i : Fin 2) : (rO g i).PackedRows (EltTy.packing .bf16) := by revert g i; decide
theorem packed_L (g : Fin 4) (i : Fin 2) : (rL g i).PackedRows (EltTy.packing .bf16) := by revert g i; decide
theorem packed_Acc (g : Fin 4) : (rAcc g).PackedRows (EltTy.packing .bf16) := by revert g; decide
theorem words_pack (g : Fin 4) : (rPack g).WholeWords (EltTy.packing .bf16) := by revert g; decide
theorem words_recv (g : Fin 4) (r : Fin 3) : (rRecv g r).WholeWords (EltTy.packing .bf16) := by revert g r; decide

theorem wx_head (A : Memref sig .tc .hbm S1x4096x8x128 .f32) (h : Fin 8) : (headOf A h).view.WordExact :=
  (View.wordExact_bits rfl).reshape _ _
theorem wx_slot (B : Memref sig .tc .vmem S2x4096x128 .f32) (s : Fin 2) : (slotOf B s).view.WordExact :=
  (View.wordExact_bits rfl).reshape _ _
theorem wx_pack (g : Fin 4) : (packOf g).view.WordExact :=
  ((Memref.isWhole_whole cc0_scratch3).wordExact_slice rfl _ (words_pack g)).reshape _ _
theorem wx_recv (g : Fin 4) (r : Fin 3) : (recvOf g r).view.WordExact :=
  ((Memref.isWhole_whole cc0_scratch4).wordExact_slice rfl _ (words_recv g r)).reshape _ _

/-! ## The phases -/

/-- Signal the three partners and wait for their three signals. -/
def barrierK (d : Dev nD) (k : ℙ) : ℙ :=
  .op (.semSignal (devB d 0, .tc) barS (1#32).toInt) fun _ => .op (.semSignal (devB d 1, .tc) barS (1#32).toInt) fun _ =>
  .op (.semSignal (devB d 2, .tc) barS (1#32).toInt) fun _ => .op (.semWait barS (3#32).toInt) fun _ => k

/-- Start one copy of a head into a slot; wait for it. -/
def copyK (A : Memref sig .tc .hbm S1x4096x8x128 .f32) (B : Memref sig .tc .vmem S2x4096x128 .f32) (h : Fin 8) (j : Fin 2)
    (k : ℙ) : ℙ :=
  .op (.enqueueDma (headOf A h) (.here (slotOf B (par h))) (.dma (kvSem (par h) j)) (wx_head A h) (wx_slot B (par h))
    ⟨Or.inl rfl, trivial⟩) fun _ => k
def waitK (A : Memref sig .tc .hbm S1x4096x8x128 .f32) (B : Memref sig .tc .vmem S2x4096x128 .f32) (h : Fin 8) (j : Fin 2)
    (k : ℙ) : ℙ :=
  .op (.waitDma2 (kvSem (par h) j) (headOf A h) (slotOf B (par h)) (wx_head A h) (wx_slot B (par h))) fun _ => k

/-- The keys and the values of head `h`. -/
def fetchK (h : Fin 8) (k : ℙ) : ℙ := copyK kM kB h 0 (copyK vM vB h 1 k)
def fetchedK (h : Fin 8) (k : ℙ) : ℙ := waitK kM kB h 0 (waitK vM vB h 1 k)

/-- The scaled queries. -/
def queryK (k : ℙ) : ℙ :=
  .op (.load xM rX.toLoadRect (View.loadsAt_vmem h_S1x256x1024)) fun x =>
  .op (.load wqM rWq.toLoadRect (View.loadsAt_vmem h_S1024x1024)) fun w =>
  .op (.load qM rQs.toLoadRect (View.loadsAt_vmem h_S256x1024)) fun _ =>
  .op (.store qM rQs (k0_pay1 x w) Finset.univ (View.stores_vmem_bits_univ h_S256x1024 rfl) (.inl rfl)) fun _ => k

/-- The two sums of head `h` over this device's keys, into its columns of its group. -/
def sumsK (h : Fin 8) (k : ℙ) : ℙ :=
  .op (.load qM (rQ h).toLoadRect (View.loadsAt_vmem h_S256x128)) fun q =>
  .op (.load kB (rSlot (par h)).toLoadRect (View.loadsAt_vmem h_S1x4096x128)) fun ks =>
  .op (.load vB (rSlot (par h)).toLoadRect (View.loadsAt_vmem h_S1x4096x128)) fun vs =>
  .op (.load packM (rO (grp h) (par h)).toLoadRect (View.loadsAt_vmem h_S1x256x128)) fun _ =>
  .op (.store packM (rO (grp h) (par h)) (k0_pay3 q ks vs) Finset.univ
    (View.stores_vmem h_S1x256x128 ((Memref.isWhole_whole cc0_scratch3).storeExact_slice rfl _ (packed_O (grp h) (par h)))
      (fun _ => rfl)) (.inl rfl)) fun _ =>
  .op (.load packM (rL (grp h) (par h)).toLoadRect (View.loadsAt_vmem h_S1x256x1)) fun _ =>
  .op (.store packM (rL (grp h) (par h)) (k0_pay5 (k0_pay4 q ks)) Finset.univ
    (View.stores_vmem h_S1x256x1 ((Memref.isWhole_whole cc0_scratch3).storeExact_slice rfl _ (packed_L (grp h) (par h)))
      (fun _ => rfl)) (.inl rfl)) fun _ => k

/-- Transfer `n`. -/
def sendK (d : Dev nD) (n : Fin 12) (k : ℙ) : ℙ :=
  .op (.enqueueDma (packOf (tg n)) (.remote (Dev.tc (devN d n)) (recvOf (tg n) (tr n)) (.dma (sendSem (tg n) (tr n))))
    (.dma (recvSem (tg n) (tr n))) (wx_pack (tg n)) (wx_recv (tg n) (tr n)) ⟨⟨rfl, Or.inl rfl⟩, trivial⟩) fun _ => k

/-- Head `h`: start the next head's copies, wait for this head's, sum; after a group's second head, send the group. -/
def headK (d : Dev nD) (h : Fin 8) (k : ℙ) : ℙ :=
  let rest : ℙ := fetchedK h (sumsK h (match h with
    | 1 => sendK d 0 k | 3 => sendK d 1 k | 5 => sendK d 2 k | 7 => sendK d 3 k | _ => k))
  match h with
  | 0 => fetchK 1 rest | 1 => fetchK 2 rest | 2 => fetchK 3 rest | 3 => fetchK 4 rest
  | 4 => fetchK 5 rest | 5 => fetchK 6 rest | 6 => fetchK 7 rest | 7 => rest

/-- Await transfer `n` and the partner's, and add what arrived. -/
def addK (n : Fin 12) (k : ℙ) : ℙ :=
  .op (.waitDma2 (sendSem (tg n) (tr n)) (recvOf (tg n) (tr n)) (packOf (tg n)) (wx_recv (tg n) (tr n)) (wx_pack (tg n))) fun _ =>
  .op (.waitDma2 (recvSem (tg n) (tr n)) (packOf (tg n)) (recvOf (tg n) (tr n)) (wx_pack (tg n)) (wx_recv (tg n) (tr n))) fun _ =>
  .op (.load packM (rAcc (tg n)).toLoadRect (View.loadsAt_vmem h_S1x256x258)) fun p =>
  .op (.load recvM (rIn (tg n) (tr n)).toLoadRect (View.loadsAt_vmem h_S1x1x256x258)) fun w =>
  .op (.load packM (rAcc (tg n)).toLoadRect (View.loadsAt_vmem h_S1x256x258)) fun _ =>
  .op (.store packM (rAcc (tg n)) (k0_pay31 p w) Finset.univ
    (View.stores_vmem h_S1x256x258 ((Memref.isWhole_whole cc0_scratch3).storeExact_slice rfl _ (packed_Acc (tg n)))
      (fun _ => rfl)) (.inl rfl)) fun _ => k

/-- The weighted mean of head `i` of group `g`. -/
def meanK (g : Fin 4) (i : Fin 2) (k : ℙ) : ℙ :=
  .op (.load packM (rO g i).toLoadRect (View.loadsAt_vmem h_S1x256x128)) fun o =>
  .op (.load packM (rL g i).toLoadRect (View.loadsAt_vmem h_S1x256x1)) fun l =>
  .op (.load qM (rA g i).toLoadRect (View.loadsAt_vmem h_S256x128)) fun _ =>
  .op (.store qM (rA g i) (k0_pay42 o l) Finset.univ (View.stores_vmem_bits_univ h_S256x128 rfl) (.inl rfl)) fun _ => k

/-- Group `0`'s part of the projection starts the result; a later group's is added to it. -/
def firstK (k : ℙ) : ℙ :=
  .op (.load qM (rG 0).toLoadRect (View.loadsAt_vmem h_S256x256)) fun a =>
  .op (.load woM (rW 0).toLoadRect (View.loadsAt_vmem h_S256x1024)) fun w =>
  .op (.load outM rX.toLoadRect (View.loadsAt_vmem h_S1x256x1024)) fun _ =>
  .op (.store outM rX (k0_pay43 a w) Finset.univ (View.stores_vmem_bits_univ h_S1x256x1024 rfl) (.inl rfl)) fun _ => k
def nextK (g : Fin 4) (k : ℙ) : ℙ :=
  .op (.load qM (rG g).toLoadRect (View.loadsAt_vmem h_S256x256)) fun a =>
  .op (.load woM (rW g).toLoadRect (View.loadsAt_vmem h_S256x1024)) fun w =>
  .op (.load outM rX.toLoadRect (View.loadsAt_vmem h_S1x256x1024)) fun o =>
  .op (.load outM rX.toLoadRect (View.loadsAt_vmem h_S1x256x1024)) fun _ =>
  .op (.store outM rX (k0_pay48 a w o) Finset.univ (View.stores_vmem_bits_univ h_S1x256x1024 rfl) (.inl rfl)) fun _ => k

/-- The whole body. -/
def prog : ℙ :=
  .op .deviceId fun d => barrierK d <| fetchK 0 <| queryK <|
    headK d 0 <| headK d 1 <| headK d 2 <| headK d 3 <| headK d 4 <| headK d 5 <| headK d 6 <| headK d 7 <|
    addK 0 <| sendK d 4 <| addK 1 <| sendK d 5 <| addK 2 <| sendK d 6 <| addK 3 <| sendK d 7 <|
    addK 4 <| sendK d 8 <| addK 5 <| sendK d 9 <| addK 6 <| sendK d 10 <| addK 7 <| sendK d 11 <|
    addK 8 <| meanK 0 0 <| meanK 0 1 <| firstK <|
    addK 9 <| meanK 1 0 <| meanK 1 1 <| nextK 1 <|
    addK 10 <| meanK 2 0 <| meanK 2 1 <| nextK 2 <|
    addK 11 <| meanK 3 0 <| meanK 3 1 <| nextK 3 <| .ret ⟨⟩

set_option maxRecDepth 65536 in
/-- The printed body is that program. -/
theorem body_eq : cc0_body (F := F) xM (Memref.isWhole_whole _) wqM (Memref.isWhole_whole _) woM (Memref.isWhole_whole _)
    kM (Memref.isWhole_whole _) vM (Memref.isWhole_whole _) outM (Memref.isWhole_whole _) kB (Memref.isWhole_whole _)
    vB (Memref.isWhole_whole _) qM (Memref.isWhole_whole _) packM (Memref.isWhole_whole _) recvM (Memref.isWhole_whole _)
    cc0_scratch5 cc0_scratch6 cc0_scratch7 = prog := by
  chain_rfl

end Cert.KernelIdeal.Ring
-- ==== Proof.KernelIdealGeom.lean ====
module

public import proofs.«01_k».proof.Proof.KernelIdealProg
public import Idealize.ShloMosaic.Lib.Pipeline.Value
public import Idealize.ShloMosaic.Lib.Pipeline.ValueKit.Geometry

/-!
# What the loads read after the stores and the transfers

Pure facts of buffer contents: a landed head read back, a landed group read back, the columns of a group determined by
its two weighted sums and two weights, the columns of the means.
-/

@[expose] public section

noncomputable section

namespace Cert.KernelIdeal.Ring

open Cert.KernelIdeal Cert.KernelIdeal.Gen
open Idealize.ShloMosaic
open Idealize.ShloMosaic.TcCoe
open Idealize.SL.Sem
open Idealize.ShloMosaic.ValueKit (rect_emb_unit_val)

variable {F : FTy → Type} [FloatOps F]

/-! ## Contents of the buffers -/

abbrev PackC (F : FTy → Type) : Type := (cc0_scratch3 : Ref sig .tc).ty.Contents (Elt F)
abbrev RecvC (F : FTy → Type) : Type := (cc0_scratch4 : Ref sig .tc).ty.Contents (Elt F)
abbrev QC (F : FTy → Type) : Type := (cc0_scratch2 : Ref sig .tc).ty.Contents (Elt F)

/-- The used columns of group `g`; a landing place's; a head's weighted sum and weight. -/
def rdAcc (g : Fin 4) (f : PackC F) : Vec F S1x256x258 .bf16 := packM.view.readAt (Elt F) (rAcc g).toLoadRect f
def rdIn (g : Fin 4) (r : Fin 3) (f : RecvC F) : Vec F S1x1x256x258 .bf16 := recvM.view.readAt (Elt F) (rIn g r).toLoadRect f
def rdO (g : Fin 4) (i : Fin 2) (f : PackC F) : Vec F S1x256x128 .bf16 := packM.view.readAt (Elt F) (rO g i).toLoadRect f
def rdL (g : Fin 4) (i : Fin 2) (f : PackC F) : Vec F S1x256x1 .bf16 := packM.view.readAt (Elt F) (rL g i).toLoadRect f
def rdQ (h : Fin 8) (f : QC F) : Vec F S256x128 .f32 := qM.view.readAt (Elt F) (rQ h).toLoadRect f
def rdA (g : Fin 4) (i : Fin 2) (f : QC F) : Vec F S256x128 .f32 := qM.view.readAt (Elt F) (rA g i).toLoadRect f
def rdG (g : Fin 4) (f : QC F) : Vec F S256x256 .f32 := qM.view.readAt (Elt F) (rG g).toLoadRect f

/-- The stores. -/
def wrAcc (g : Fin 4) (f : PackC F) (w : Vec F S1x256x258 .bf16) : PackC F := (packM.access (rAcc g)).write (Elt F) f w Finset.univ
def wrO (g : Fin 4) (i : Fin 2) (f : PackC F) (w : Vec F S1x256x128 .bf16) : PackC F := (packM.access (rO g i)).write (Elt F) f w Finset.univ
def wrL (g : Fin 4) (i : Fin 2) (f : PackC F) (w : Vec F S1x256x1 .bf16) : PackC F := (packM.access (rL g i)).write (Elt F) f w Finset.univ
def wrA (g : Fin 4) (i : Fin 2) (f : QC F) (w : Vec F S256x128 .f32) : QC F := (qM.access (rA g i)).write (Elt F) f w Finset.univ

/-- A landing place's columns as a group's. -/
def asIn (P : Vec F S1x256x258 .bf16) : Vec F S1x1x256x258 .bf16 := fun x => P (fun a => ⟨(x a.succ).val, (x a.succ).isLt⟩)
/-- A head's block in its staging shape. -/
def asSlot (w : Vec F S4096x128 .f32) : Vec F S1x4096x128 .f32 := fun x => w (fun a => ⟨(x a.succ).val, (x a.succ).isLt⟩)

/-! ## A head read back from its slot -/

omit [FloatOps F] in
theorem slot_read (b : Ref sig .tc) (s : Fin 2) (B : Memref sig .tc .vmem S2x4096x128 .f32)
    (f : B.view.ty.Contents (Elt F)) :
    B.view.readAt (Elt F) (rSlot s).toLoadRect f = asSlot ((slotOf B s).view.read (Elt F) f) := by
  funext x
  show _root_.cast _ (f (B.view.emb ((rSlot s).emb x))) = _root_.cast _ (f (B.view.emb ((rSlot s).emb (Shape.reshapeEquiv _ _))))
  congr 4
  refine (Shape.reshapeEquiv_eq_of_rowMajor _ ?_).symm
  have h0 : (x 0).val = 0 := by have := (x 0).isLt; simp only [S1x4096x128] at this; exact Nat.lt_one_iff.mp this
  erw [Shape.rowMajor_val_three (d := ![1, 4096, 128]) x, Shape.rowMajor_val_two (d := ![4096, 128])]
  show ((x 0).val * 4096 + (x 1).val) * 128 + (x 2).val = (x 1).val * 128 + (x 2).val
  rw [h0]; omega

/-! ## A group read back from its landing place -/

omit [FloatOps F] in
theorem land_read (g : Fin 4) (r : Fin 3) (fd : RecvC F) (fs : PackC F) :
    rdIn g r ((recvOf g r).view.write (Elt F) fd ((packOf g).view.read (Elt F) fs) Finset.univ) = asIn (rdAcc g fs) := by
  funext x
  have h0 : (x 0).val = 0 := Nat.lt_one_iff.mp (x 0).isLt
  have h1 : (x 1).val = 0 := Nat.lt_one_iff.mp (x 1).isLt
  have h3 : (x 3).val < 258 := (x 3).isLt
  let j : S256x384.Idx := fun a => match a with
    | ⟨0, _⟩ => ⟨(x 2).val, (x 2).isLt⟩
    | ⟨1, _⟩ => ⟨(x 3).val, lt_trans h3 (show 258 < 384 by decide)⟩
  have e1 : (recvOf g r).view.emb j = (rIn g r).emb x := by
    show (rRecv g r).emb (Shape.reshapeEquiv _ j) = (rIn g r).emb x
    have hz : Shape.reshapeEquiv (squeezes_S1x1x256x384_S256x384).numel_eq j
        = (fun a => ⟨(x a).val, lt_of_lt_of_le (x a).isLt (by revert a; decide)⟩ : S1x1x256x384.Idx) := by
      refine Shape.reshapeEquiv_eq_of_rowMajor _ ?_
      erw [Shape.rowMajor_val_four (d := ![1, 1, 256, 384]), Shape.rowMajor_val_two (d := ![256, 384])]
      show (((x 0).val * 1 + (x 1).val) * 256 + (x 2).val) * 384 + (x 3).val = (x 2).val * 384 + (x 3).val
      rw [h0, h1]; omega
    erw [hz]
    funext a
    refine Fin.ext ?_
    unfold rRecv rIn
    rw [rect_emb_unit_val, rect_emb_unit_val]
  have e2 : (packOf g).view.emb j = (rAcc g).emb (fun a => ⟨(x a.succ).val, (x a.succ).isLt⟩ : S1x256x258.Idx) := by
    show (rPack g).emb (Shape.reshapeEquiv _ j) = _
    have hz : Shape.reshapeEquiv (squeezes_S1x256x384_S256x384).numel_eq j
        = (fun a => ⟨(x a.succ).val, lt_of_lt_of_le (x a.succ).isLt (by revert a; decide)⟩ : S1x256x384.Idx) := by
      refine Shape.reshapeEquiv_eq_of_rowMajor _ ?_
      erw [Shape.rowMajor_val_three (d := ![1, 256, 384]), Shape.rowMajor_val_two (d := ![256, 384])]
      show ((x 1).val * 256 + (x 2).val) * 384 + (x 3).val = (x 2).val * 384 + (x 3).val
      rw [h1]; omega
    erw [hz]
    funext a
    refine Fin.ext ?_
    unfold rPack rAcc
    rw [rect_emb_unit_val, rect_emb_unit_val]
  show (recvOf g r).view.write (Elt F) fd ((packOf g).view.read (Elt F) fs) Finset.univ ((rIn g r).emb x) = fs ((rAcc g).emb _)
  rw [← e1, ← e2]
  exact View.write_emb_of_mem _ _ (Finset.mem_univ j)

/-! ## A group's columns -/

section Parts

theorem disj_O (g : Fin 4) {i i' : Fin 2} (h : i ≠ i') : Disjoint (rO g i).set (rO g i').set :=
  Rect.unit_disjoint (s := S4x256x384) (2 : Fin 3) (by revert g i i'; decide)
theorem disj_L (g : Fin 4) {i i' : Fin 2} (h : i ≠ i') : Disjoint (rL g i).set (rL g i').set :=
  Rect.unit_disjoint (s := S4x256x384) (2 : Fin 3) (by revert g i i'; decide)
theorem disj_OL (g : Fin 4) (i i' : Fin 2) : Disjoint (rO g i).set (rL g i').set :=
  Rect.unit_disjoint (s := S4x256x384) (2 : Fin 3) (by revert g i i'; decide)
theorem disj_A (g : Fin 4) {i i' : Fin 2} (h : i ≠ i') : Disjoint (rA g i).set (rA g i').set :=
  Rect.unit_disjoint (s := S256x1024) (1 : Fin 2) (by revert g i i'; decide)

omit [FloatOps F] in
theorem rdO_wrO (g i) (f : PackC F) (w) : rdO g i (wrO g i f w) = w := View.read_write_univ (v := packM.view.slice (rO g i)) f w
omit [FloatOps F] in
theorem rdL_wrL (g i) (f : PackC F) (w) : rdL g i (wrL g i f w) = w := View.read_write_univ (v := packM.view.slice (rL g i)) f w
omit [FloatOps F] in
theorem rdAcc_wrAcc (g) (f : PackC F) (w) : rdAcc g (wrAcc g f w) = w := View.read_write_univ (v := packM.view.slice (rAcc g)) f w
omit [FloatOps F] in
theorem rdA_wrA (g i) (f : QC F) (w) : rdA g i (wrA g i f w) = w := View.read_write_univ (v := qM.view.slice (rA g i)) f w
omit [FloatOps F] in
theorem rdO_wrO_ne (g) {i i' : Fin 2} (h : i ≠ i') (f : PackC F) (w) : rdO g i (wrO g i' f w) = rdO g i f :=
  View.read_slice_write_slice_of_disjoint (v := packM.view) (rO g i) (rO g i') f w Finset.univ
    (by rw [View.setOn_univ, View.set_slice_whole, View.set_slice_whole]; exact disj_O g h)
omit [FloatOps F] in
theorem rdL_wrL_ne (g) {i i' : Fin 2} (h : i ≠ i') (f : PackC F) (w) : rdL g i (wrL g i' f w) = rdL g i f :=
  View.read_slice_write_slice_of_disjoint (v := packM.view) (rL g i) (rL g i') f w Finset.univ
    (by rw [View.setOn_univ, View.set_slice_whole, View.set_slice_whole]; exact disj_L g h)
omit [FloatOps F] in
theorem rdO_wrL (g) (i i' : Fin 2) (f : PackC F) (w) : rdO g i (wrL g i' f w) = rdO g i f :=
  View.read_slice_write_slice_of_disjoint (v := packM.view) (rO g i) (rL g i') f w Finset.univ
    (by rw [View.setOn_univ, View.set_slice_whole, View.set_slice_whole]; exact disj_OL g i i')
omit [FloatOps F] in
theorem rdL_wrO (g) (i i' : Fin 2) (f : PackC F) (w) : rdL g i (wrO g i' f w) = rdL g i f :=
  View.read_slice_write_slice_of_disjoint (v := packM.view) (rL g i) (rO g i') f w Finset.univ
    (by rw [View.setOn_univ, View.set_slice_whole, View.set_slice_whole]; exact (disj_OL g i' i).symm)
omit [FloatOps F] in
theorem rdA_wrA_ne (g) {i i' : Fin 2} (h : i ≠ i') (f : QC F) (w) : rdA g i (wrA g i' f w) = rdA g i f :=
  View.read_slice_write_slice_of_disjoint (v := qM.view) (rA g i) (rA g i') f w Finset.univ
    (by rw [View.setOn_univ, View.set_slice_whole, View.set_slice_whole]; exact disj_A g h)

/-- Two whole-buffer contents read alike through rectangles that cover a rectangle are read alike through it. -/
theorem rd_cover {b : Ref sig .tc} {Val : EltTy → Type} (f f' : b.ty.Contents Val) (r : Rect b.ty.shape) {n : Nat} (rs : Fin n → Rect b.ty.shape)
    (h : ∀ k, (View.whole b).readAt Val (rs k).toLoadRect f = (View.whole b).readAt Val (rs k).toLoadRect f')
    (hc : ∀ i ∈ r.set, ∃ k, i ∈ (rs k).set) :
    (View.whole b).readAt Val r.toLoadRect f = (View.whole b).readAt Val r.toLoadRect f' := by
  refine View.readAt_congr fun i hi => ?_
  have hi : i ∈ r.set := (View.mem_setOn (v := View.whole b)).mp hi
  obtain ⟨k, hk⟩ := hc i hi
  rw [← Rect.map_emb_univ] at hk
  obtain ⟨x, -, rfl⟩ := Finset.mem_map.mp hk
  exact congrFun (h k) x

omit [FloatOps F] in
/-- A group's used columns are its two weighted sums and its two weights. -/
theorem acc_ext (g : Fin 4) (f f' : PackC F) (hO : ∀ i, rdO g i f = rdO g i f') (hL : ∀ i, rdL g i f = rdL g i f') :
    rdAcc g f = rdAcc g f' := by
  refine rd_cover (b := cc0_scratch3) f f' (rAcc g) (![rO g 0, rO g 1, rL g 0, rL g 1]) (fun k => ?_) (fun i hi => ?_)
  · fin_cases k
    · exact hO 0
    · exact hO 1
    · exact hL 0
    · exact hL 1
  · have hi' := (Rect.mem_set_unit (s := S4x256x384)).mp hi
    have a0 := hi' 0; have a1 := hi' 1; have a2 := hi' 2
    have hlt : ∀ (w : ℕ) (off sz : Fin 3 → ℕ) (inb) , off = ![g.val, 0, w] → sz 0 = 1 → sz 1 = 256 → w ≤ (i 2).val → (i 2).val < w + sz 2 →
        i ∈ (Rect.unit (s := S4x256x384) off sz inb).set := by
      intro w off sz inb ho h0 h1 hw hw'
      refine (Rect.mem_set_unit (s := S4x256x384)).mpr fun a => ?_
      subst ho
      match a with
      | ⟨0, _⟩ => exact ⟨a0.1, by have := a0.2; show _ < g.val + sz 0; rw [h0]; exact this⟩
      | ⟨1, _⟩ => exact ⟨Nat.zero_le _, by have := a1.2; show _ < 0 + sz 1; rw [h1]; exact this⟩
      | ⟨2, _⟩ => exact ⟨hw, hw'⟩
    have h2 : (i 2).val < 258 := by have := a2.2; simpa using this
    by_cases c1 : (i 2).val < 128
    · refine ⟨0, ?_⟩
      show i ∈ (rO g 0).set
      unfold rO
      exact hlt 0 _ _ _ rfl rfl rfl (Nat.zero_le _) (by show _ < 0 + 128; omega)
    by_cases c2 : (i 2).val < 256
    · refine ⟨1, ?_⟩
      show i ∈ (rO g 1).set
      unfold rO
      exact hlt 128 _ _ _ rfl rfl rfl (by omega) (by show _ < 128 + 128; omega)
    by_cases c3 : (i 2).val < 257
    · refine ⟨2, ?_⟩
      show i ∈ (rL g 0).set
      unfold rL
      exact hlt 256 _ _ _ rfl rfl rfl (by omega) (by show _ < 256 + 1; omega)
    · refine ⟨3, ?_⟩
      show i ∈ (rL g 1).set
      unfold rL
      exact hlt 257 _ _ _ rfl rfl rfl (by omega) (by show _ < 257 + 1; omega)

omit [FloatOps F] in
/-- A part of a group's used columns is determined by them. -/
theorem O_of_acc (g : Fin 4) (i : Fin 2) (f f' : PackC F) (h : rdAcc g f = rdAcc g f') : rdO g i f = rdO g i f' := by
  refine rd_cover (b := cc0_scratch3) f f' (rO g i) (fun _ : Fin 1 => rAcc g) (fun _ => h) (fun x hx => ⟨0, ?_⟩)
  have hx' := (Rect.mem_set_unit (s := S4x256x384)).mp hx
  refine (Rect.mem_set_unit (s := S4x256x384)).mpr fun a => ?_
  have := hx' a
  match a with
  | ⟨0, _⟩ => exact this
  | ⟨1, _⟩ => exact this
  | ⟨2, _⟩ =>
    refine ⟨Nat.zero_le _, lt_of_lt_of_le this.2 ?_⟩
    show 128 * i.val + 128 ≤ 0 + 258
    omega
omit [FloatOps F] in
theorem L_of_acc (g : Fin 4) (i : Fin 2) (f f' : PackC F) (h : rdAcc g f = rdAcc g f') : rdL g i f = rdL g i f' := by
  refine rd_cover (b := cc0_scratch3) f f' (rL g i) (fun _ : Fin 1 => rAcc g) (fun _ => h) (fun x hx => ⟨0, ?_⟩)
  have hx' := (Rect.mem_set_unit (s := S4x256x384)).mp hx
  refine (Rect.mem_set_unit (s := S4x256x384)).mpr fun a => ?_
  have := hx' a
  match a with
  | ⟨0, _⟩ => exact this
  | ⟨1, _⟩ => exact this
  | ⟨2, _⟩ =>
    refine ⟨Nat.zero_le _, lt_of_lt_of_le this.2 ?_⟩
    show 256 + i.val + 1 ≤ 0 + 258
    omega

omit [FloatOps F] in
/-- A group's columns of the means are its two heads'. -/
theorem G_ext (g : Fin 4) (f f' : QC F) (h : ∀ i, rdA g i f = rdA g i f') : rdG g f = rdG g f' := by
  refine rd_cover (b := cc0_scratch2) f f' (rG g) (fun i : Fin 2 => rA g i) h (fun x hx => ?_)
  have hx' := (Rect.mem_set_unit (s := S256x1024)).mp hx
  have b0 : 0 ≤ (x 0).val ∧ (x 0).val < 0 + 256 := hx' 0
  have b1 : 256 * g.val ≤ (x 1).val ∧ (x 1).val < 256 * g.val + 256 := hx' 1
  by_cases hc : (x 1).val < 256 * g.val + 128
  · refine ⟨0, (Rect.mem_set_unit (s := S256x1024)).mpr fun a => ?_⟩
    match a with
    | ⟨0, _⟩ => exact b0
    | ⟨1, _⟩ => exact ⟨by show 256 * g.val + 128 * 0 ≤ (x 1).val; omega, by show (x 1).val < 256 * g.val + 128 * 0 + 128; omega⟩
  · refine ⟨1, (Rect.mem_set_unit (s := S256x1024)).mpr fun a => ?_⟩
    match a with
    | ⟨0, _⟩ => exact b0
    | ⟨1, _⟩ => exact ⟨by show 256 * g.val + 128 * 1 ≤ (x 1).val; omega, by show (x 1).val < 256 * g.val + 128 * 1 + 128; omega⟩

end Parts

/-! ## Where the accesses lie -/

theorem pack_set (g : Fin 4) : (packOf g).view.set = (rPack g).set := by
  show ((packM.view.slice (rPack g)).reshape _ _).set = _
  rw [View.set_reshape]; exact View.set_slice_whole _ _
theorem recv_set (g : Fin 4) (r : Fin 3) : (recvOf g r).view.set = (rRecv g r).set := by
  show ((recvM.view.slice (rRecv g r)).reshape _ _).set = _
  rw [View.set_reshape]; exact View.set_slice_whole _ _
theorem slot_set (B : Memref sig .tc .vmem S2x4096x128 .f32) (s : Fin 2) : (slotOf B s).view.set = (B.view.slice (rSlot s)).set := by
  show ((B.view.slice (rSlot s)).reshape _ _).set = _
  rw [View.set_reshape]

theorem acc_sub (g : Fin 4) : (rAcc g).set ⊆ (rPack g).set := fun i hi => by
  have hi' := (Rect.mem_set_unit (s := S4x256x384)).mp hi
  refine (Rect.mem_set_unit (s := S4x256x384)).mpr fun a => ⟨(hi' a).1, lt_of_lt_of_le (hi' a).2 ?_⟩
  clear hi' hi; revert a g; decide
theorem O_sub (g : Fin 4) (i : Fin 2) : (rO g i).set ⊆ (rPack g).set := fun x hx => by
  have hx' := (Rect.mem_set_unit (s := S4x256x384)).mp hx
  refine (Rect.mem_set_unit (s := S4x256x384)).mpr fun a => ⟨le_trans ?_ (hx' a).1, lt_of_lt_of_le (hx' a).2 ?_⟩ <;> (clear hx' hx; revert a g i; decide)
theorem L_sub (g : Fin 4) (i : Fin 2) : (rL g i).set ⊆ (rPack g).set := fun x hx => by
  have hx' := (Rect.mem_set_unit (s := S4x256x384)).mp hx
  refine (Rect.mem_set_unit (s := S4x256x384)).mpr fun a => ⟨le_trans ?_ (hx' a).1, lt_of_lt_of_le (hx' a).2 ?_⟩ <;> (clear hx' hx; revert a g i; decide)
theorem in_sub (g : Fin 4) (r : Fin 3) : (rIn g r).set ⊆ (rRecv g r).set := fun i hi => by
  have hi' := (Rect.mem_set_unit (s := S4x3x256x384)).mp hi
  refine (Rect.mem_set_unit (s := S4x3x256x384)).mpr fun a => ⟨(hi' a).1, lt_of_lt_of_le (hi' a).2 ?_⟩
  clear hi' hi; revert a g r; decide

/-! ## How the buffers fall into their parts -/

theorem pack_parts : (Finset.univ : Finset (Fin 4)).biUnion (fun g => (rPack g).set) = Finset.univ := by
  refine Finset.eq_univ_iff_forall.mpr fun (i : S4x256x384.Idx) => Finset.mem_biUnion.mpr ⟨i 0, Finset.mem_univ _, ?_⟩
  refine (Rect.mem_set_unit (s := S4x256x384)).mpr fun a => ?_
  match a with
  | ⟨0, _⟩ => exact ⟨le_refl (i 0).val, Nat.lt_succ_self (i 0).val⟩
  | ⟨1, _⟩ => exact ⟨Nat.zero_le _, by show (i 1).val < 0 + 256; rw [Nat.zero_add]; exact (i 1).isLt⟩
  | ⟨2, _⟩ => exact ⟨Nat.zero_le _, by show (i 2).val < 0 + 384; rw [Nat.zero_add]; exact (i 2).isLt⟩
theorem pack_disj (g g' : Fin 4) (h : g ≠ g') : Disjoint (rPack g).set (rPack g').set :=
  Rect.unit_disjoint (s := S4x256x384) (0 : Fin 3) (by revert g g'; decide)

theorem recv_parts : (Finset.univ : Finset (Fin 12)).biUnion (fun n => (rRecv (tg n) (tr n)).set) = Finset.univ := by
  refine Finset.eq_univ_iff_forall.mpr fun (i : S4x3x256x384.Idx) => ?_
  have h0 : (i 0).val < 4 := (i 0).isLt
  have h1 : (i 1).val < 3 := (i 1).isLt
  refine Finset.mem_biUnion.mpr ⟨⟨4 * (i 1).val + (i 0).val, by omega⟩, Finset.mem_univ _, ?_⟩
  refine (Rect.mem_set_unit (s := S4x3x256x384)).mpr fun a => ?_
  match a with
  | ⟨0, _⟩ =>
    show (4 * (i 1).val + (i 0).val) % 4 ≤ (i 0).val ∧ (i 0).val < (4 * (i 1).val + (i 0).val) % 4 + 1
    omega
  | ⟨1, _⟩ =>
    show (4 * (i 1).val + (i 0).val) / 4 ≤ (i 1).val ∧ (i 1).val < (4 * (i 1).val + (i 0).val) / 4 + 1
    omega
  | ⟨2, _⟩ => exact ⟨Nat.zero_le _, by show (i 2).val < 0 + 256; rw [Nat.zero_add]; exact (i 2).isLt⟩
  | ⟨3, _⟩ => exact ⟨Nat.zero_le _, by show (i 3).val < 0 + 384; rw [Nat.zero_add]; exact (i 3).isLt⟩
theorem recv_disj (n n' : Fin 12) (h : n ≠ n') : Disjoint (rRecv (tg n) (tr n)).set (rRecv (tg n') (tr n')).set := by
  by_cases hg : tg n = tg n'
  · refine Rect.unit_disjoint (s := S4x3x256x384) (1 : Fin 4) ?_
    have : tr n ≠ tr n' := fun hr => h (Fin.ext (by
      have h1 := congrArg Fin.val hg; have h2 := congrArg Fin.val hr
      simp only [tg, tr] at h1 h2; omega))
    have hv := fun e => this (Fin.ext e)
    show (tr n).val + 1 ≤ (tr n').val ∨ (tr n').val + 1 ≤ (tr n).val
    omega
  · refine Rect.unit_disjoint (s := S4x3x256x384) (0 : Fin 4) ?_
    have hv := fun e => hg (Fin.ext e)
    show (tg n).val + 1 ≤ (tg n').val ∨ (tg n').val + 1 ≤ (tg n).val
    omega

theorem slot_parts : (Finset.univ : Finset (Fin 2)).biUnion (fun s => (rSlot s).set) = Finset.univ := by
  refine Finset.eq_univ_iff_forall.mpr fun (i : S2x4096x128.Idx) => Finset.mem_biUnion.mpr ⟨i 0, Finset.mem_univ _, ?_⟩
  refine (Rect.mem_set_unit (s := S2x4096x128)).mpr fun a => ?_
  match a with
  | ⟨0, _⟩ => exact ⟨le_refl (i 0).val, Nat.lt_succ_self (i 0).val⟩
  | ⟨1, _⟩ => exact ⟨Nat.zero_le _, by show (i 1).val < 0 + 4096; rw [Nat.zero_add]; exact (i 1).isLt⟩
  | ⟨2, _⟩ => exact ⟨Nat.zero_le _, by show (i 2).val < 0 + 128; rw [Nat.zero_add]; exact (i 2).isLt⟩
theorem slot_disj (s s' : Fin 2) (h : s ≠ s') : Disjoint (rSlot s).set (rSlot s').set :=
  Rect.unit_disjoint (s := S2x4096x128) (0 : Fin 3) (by revert s s'; decide)

end Cert.KernelIdeal.Ring
-- ==== Proof.KernelIdealProto.lean ====
module

public import proofs.«01_k».proof.Proof.KernelIdealGeom

/-!
# The protocol

Eight devices at the corners of a cube. `flip b c` is the neighbour of `c` along axis `b`. Each device signals its three
neighbours' barrier and waits for their three signals; with its signal along axis `b` a device hands that neighbour the
landing places of the transfers that come along axis `b`. Transfer `n = 4 r + g` of device `c` goes along the axis
`bitOf g r`: it carries group `g`'s partial sums into the partner's landing place `(g, r)`, crediting the partner's receive
semaphore and the sender's send semaphore. The receive semaphore hands its owner the landing place with the partner's sums
of round `r`; the send semaphore hands the block sent back.

Levels: everything a device waits for while it still owes is below everything it owes. The barrier is at `1`, the receive
semaphore of transfer `n` at `2 + n`, all others at `0`.
-/

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

abbrev UB : Type := URounds (GSem nD τ sig) (Fin 3)
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) :=
  ((Emb.inl : Emb UB (UB × Counters)).trans (Emb.inr : Emb (UB × Counters) UU)).trans (uEmb (Ix := Unit) (Val := Elt F) (Name := ℕ) (U := UU) (Lvl := ℕ)).toEmb
omit [FloatOps F] in
instance ER_lands : (ER (F := F)).LandsIn (upEmb : UEmb _ 𝕄) := by unfold ER; infer_instance

abbrev EC : UEmb Counters (MT nD τ sig Unit (Elt F) ℕ UU ℕ) := countersEmb

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The cube -/

set_option backward.proofsInPublic true in
/-- The neighbour along axis `b`. -/
def flip (b : Fin 3) (c : Dev nD) : Dev nD := ⟨(c.val ^^^ (1 <<< b.val)) % 8, Nat.mod_lt _ (by decide)⟩
set_option backward.proofsInPublic true in
/-- The axis group `g`'s round `r` goes along. -/
def bitOf (g : Fin 4) (r : ℕ) : Fin 3 := ⟨(if g.val % 2 = 0 then r else 2 - r) % 3, Nat.mod_lt _ (by decide)⟩
/-- The axis of transfer `n`. -/
def bitN (n : Fin 12) : Fin 3 := bitOf (tg n) (tr n).val
/-- Where transfer `n` of device `c` goes, and whence its own comes. -/
def partner (n : Fin 12) (c : Dev nD) : Dev nD := flip (bitN n) c

theorem flip_flip (b : Fin 3) (c : Dev nD) : flip b (flip b c) = c := by revert b c; decide
theorem partner_partner (n : Fin 12) (c : Dev nD) : partner n (partner n c) = c := flip_flip _ _

theorem devB_eq (d : Dev nD) (b : Fin 3) : devB d b = flip b d := by revert d b; decide +kernel
theorem devN_eq (d : Dev nD) (n : Fin 12) : devN d n = partner n d := by revert d n; decide +kernel

def flipEquiv (b : Fin 3) : Dev nD ≃ Dev nD := ⟨flip b, flip b, flip_flip b, flip_flip b⟩

/-! ## The cells -/

abbrev barCell (c : Dev nD) : GSem nD τ sig := ((c : Thread nD τ), .reg barS)
abbrev sendCell (c : Dev nD) (n : Fin 12) : GSem nD τ sig := ((c : Thread nD τ), .dma (sendSem (tg n) (tr n)))
abbrev recvCell (c : Dev nD) (n : Fin 12) : GSem nD τ sig := ((c : Thread nD τ), .dma (recvSem (tg n) (tr n)))

/-- Which of the protocol's semaphores one is. -/
inductive Role where
  | bar | send (n : Fin 12) | recv (n : Fin 12) | none

def roleOf : SemLoc sig → Role
  | .reg q => if q = barS then .bar else .none
  | .dma q =>
    if 8 ≤ q.val ∧ q.val < 20 then .send ⟨(4 * ((q.val - 8) % 3) + (q.val - 8) / 3) % 12, Nat.mod_lt _ (by decide)⟩
    else if 20 ≤ q.val ∧ q.val < 32 then .recv ⟨(4 * ((q.val - 20) % 3) + (q.val - 20) / 3) % 12, Nat.mod_lt _ (by decide)⟩
    else .none

theorem role_bar : roleOf (.reg barS) = .bar := by unfold roleOf; exact if_pos rfl
theorem sendSem_val (n : Fin 12) : (sendSem (tg n) (tr n)).val = 8 + (3 * (tg n).val + (tr n).val) := by revert n; decide
theorem recvSem_val (n : Fin 12) : (recvSem (tg n) (tr n)).val = 20 + (3 * (tg n).val + (tr n).val) := by revert n; decide
theorem kvSem_val (s j : Fin 2) : (kvSem s j).val = 4 + (2 * s.val + j.val) := by revert s j; decide

theorem idx_eq (n : Fin 12) : (4 * ((3 * (tg n).val + (tr n).val) % 3) + (3 * (tg n).val + (tr n).val) / 3) % 12 = n.val := by
  revert n; decide
theorem role_send (n : Fin 12) : roleOf (.dma (sendSem (tg n) (tr n))) = .send n := by
  unfold roleOf
  have hv := sendSem_val n
  have hg := (tg n).isLt
  have hr := (tr n).isLt
  dsimp only
  rw [if_pos ⟨by omega, by omega⟩]
  congr 1
  apply Fin.ext
  show (4 * (((sendSem (tg n) (tr n)).val - 8) % 3) + ((sendSem (tg n) (tr n)).val - 8) / 3) % 12 = n.val
  rw [hv, Nat.add_sub_cancel_left, idx_eq]
theorem role_recv (n : Fin 12) : roleOf (.dma (recvSem (tg n) (tr n))) = .recv n := by
  unfold roleOf
  have hv := recvSem_val n
  have hg := (tg n).isLt
  have hr := (tr n).isLt
  dsimp only
  rw [if_neg (fun h => by omega), if_pos ⟨by omega, by omega⟩]
  congr 1
  apply Fin.ext
  show (4 * (((recvSem (tg n) (tr n)).val - 20) % 3) + ((recvSem (tg n) (tr n)).val - 20) / 3) % 12 = n.val
  rw [hv, Nat.add_sub_cancel_left, idx_eq]

/-- The units of one transfer. -/
abbrev N : ℕ := (recvOf 0 0).view.dmaCredit
theorem N_pos : 0 < N := View.dmaCredit_pos _ (by decide)
theorem N_recv (g : Fin 4) (r : Fin 3) : (recvOf g r).view.dmaCredit = N := rfl
theorem N_pack (g : Fin 4) : (packOf g).view.dmaCredit = N := rfl

/-! ## Contents -/

/-- What is staged or lies on device `c`: its block of the activations, of the weights, of the keys and of the values. -/
def xAt (c : Dev nD) : (cc0_stg0_0 : Ref sig .tc).ty.Contents (Elt F) :=
  (win0_0.blk (0 : Fin 1)).view.read (Elt F) ((s₀ m ρ).mem ((c : Thread nD τ).loc main_arg0))
def wqAt (c : Dev nD) : (cc0_stg1_0 : Ref sig .tc).ty.Contents (Elt F) :=
  (win0_1.blk (0 : Fin 1)).view.read (Elt F) ((s₀ m ρ).mem ((c : Thread nD τ).loc main_arg1))
def woAt (c : Dev nD) : (cc0_stg2_0 : Ref sig .tc).ty.Contents (Elt F) :=
  (win0_2.blk (0 : Fin 1)).view.read (Elt F) ((s₀ m ρ).mem ((c : Thread nD τ).loc main_arg4))
def kAt (c : Dev nD) : Buf (Elt F) ((c : Thread nD τ).loc main_arg2) := (s₀ m ρ).mem ((c : Thread nD τ).loc main_arg2)
def vAt (c : Dev nD) : Buf (Elt F) ((c : Thread nD τ).loc main_arg3) := (s₀ m ρ).mem ((c : Thread nD τ).loc main_arg3)

/-- Head `h` of the keys or values `f`, as the body loads it from its slot. -/
def kvBlk (A : Memref sig .tc .hbm S1x4096x8x128 .f32) (h : Fin 8) (f : A.view.ref.ty.Contents (Elt F)) : Vec F S1x4096x128 .f32 :=
  asSlot ((headOf A h).view.read (Elt F) f)

/-- The scaled queries; head `h`'s weighted sum and weights over device `c`'s keys. -/
def qAt (c : Dev nD) : QC F := k0_pay1 (xAt m ρ c) (wqAt m ρ c)
def oAt (c : Dev nD) (h : Fin 8) : Vec F S1x256x128 .bf16 := k0_pay3 (rdQ h (qAt m ρ c)) (kvBlk kM h (kAt m ρ c)) (kvBlk vM h (vAt m ρ c))
def lAt (c : Dev nD) (h : Fin 8) : Vec F S1x256x1 .bf16 := k0_pay5 (k0_pay4 (rdQ h (qAt m ρ c)) (kvBlk kM h (kAt m ρ c)))

set_option backward.proofsInPublic true in
/-- Head `i` of group `g`. -/
def hd (g : Fin 4) (i : Fin 2) : Fin 8 := ⟨2 * g.val + i.val, by omega⟩
theorem grp_hd (g i) : grp (hd g i) = g := by revert g i; decide
theorem par_hd (g i) : par (hd g i) = i := by revert g i; decide
theorem hd_grp_par (h) : hd (grp h) (par h) = h := by revert h; decide

/-- A buffer of partial sums that holds device `c`'s own for group `g`. -/
def base (c : Dev nD) (g : Fin 4) : PackC F :=
  wrL g 1 (wrO g 1 (wrL g 0 (wrO g 0 ((s₀ m ρ).mem ((c : Thread nD τ).loc cc0_scratch3)) (oAt m ρ c (hd g 0))) (lAt m ρ c (hd g 0)))
    (oAt m ρ c (hd g 1))) (lAt m ρ c (hd g 1))

theorem base_O (c : Dev nD) (g : Fin 4) (i : Fin 2) : rdO g i (base m ρ c g) = oAt m ρ c (hd g i) := by
  unfold base
  have h01 : (0 : Fin 2) ≠ 1 := by decide
  fin_cases i
  · show rdO g 0 _ = oAt m ρ c (hd g 0)
    rw [rdO_wrL, rdO_wrO_ne g h01, rdO_wrL, rdO_wrO]
  · show rdO g 1 _ = oAt m ρ c (hd g 1)
    rw [rdO_wrL, rdO_wrO]
theorem base_L (c : Dev nD) (g : Fin 4) (i : Fin 2) : rdL g i (base m ρ c g) = lAt m ρ c (hd g i) := by
  unfold base
  have h01 : (0 : Fin 2) ≠ 1 := by decide
  fin_cases i
  · show rdL g 0 _ = lAt m ρ c (hd g 0)
    rw [rdL_wrL_ne g h01, rdL_wrO, rdL_wrL]
  · show rdL g 1 _ = lAt m ρ c (hd g 1)
    rw [rdL_wrL]

/-- Group `g`'s sums on device `c` before round `r`: its own, then each round the partner's added. -/
def sums : ℕ → Dev nD → Fin 4 → Vec F S1x256x258 .bf16
  | 0, c, g => rdAcc g (base m ρ c g)
  | r + 1, c, g => k0_pay31 (sums r c g) (asIn (sums r (flip (bitOf g r) c) g))

/-- A buffer of partial sums that holds the last sums of group `g`. -/
def fin (c : Dev nD) (g : Fin 4) : PackC F := wrAcc g (base m ρ c g) (sums m ρ 3 c g)
def meanAt (c : Dev nD) (g : Fin 4) (i : Fin 2) : FVec F S256x128 .f32 := k0_pay42 (rdO g i (fin m ρ c g)) (rdL g i (fin m ρ c g))
/-- The attention columns of group `g`. -/
def attAt (c : Dev nD) (g : Fin 4) : Vec F S256x256 .f32 := rdG g (wrA g 1 (wrA g 0 (qAt m ρ c) (meanAt m ρ c g 0)) (meanAt m ρ c g 1))
def woRd (c : Dev nD) (g : Fin 4) : Vec F S256x1024 .f32 := woM.view.readAt (Elt F) (rW g).toLoadRect (woAt m ρ c)
/-- The result after the parts of groups `0 … g`. -/
def outUpTo (c : Dev nD) : ℕ → FVec F S1x256x1024 .f32
  | 0 => k0_pay43 (attAt m ρ c 0) (woRd m ρ c 0)
  | g + 1 => k0_pay48 (attAt m ρ c ⟨(g + 1) % 4, Nat.mod_lt _ (by decide)⟩) (woRd m ρ c ⟨(g + 1) % 4, Nat.mod_lt _ (by decide)⟩) (outUpTo c g)
def outAt (c : Dev nD) : (cc0_stg3_0 : Ref sig .tc).ty.Contents (Elt F) := outUpTo m ρ c 3

/-! ## The places -/

def packPts (c : Dev nD) (g : Fin 4) (f : PackC F) : sProp 𝕄 :=
  (packOf g).view.loc (c : Thread nD τ) ↦[(packOf g).view.set]{fullShare} (f : Buf (Elt F) ((packOf g).view.loc (c : Thread nD τ)))
def recvPts (c : Dev nD) (n : Fin 12) (f : RecvC F) : sProp 𝕄 :=
  (recvOf (tg n) (tr n)).view.loc (c : Thread nD τ) ↦[(recvOf (tg n) (tr n)).view.set]{fullShare} (f : Buf (Elt F) ((recvOf (tg n) (tr n)).view.loc (c : Thread nD τ)))

omit [FloatOps F] in
theorem pts_storable (ℓ : Loc nD τ sig) (I : Finset (Idx ℓ)) (f : Buf (Elt F) ℓ) :
    BI.Storable (upEmb : UEmb _ 𝕄) (ℓ ↦[I]{fullShare} f : sProp 𝕄) := inferInstance
omit [FloatOps F] in
instance packPts_storable (c : Dev nD) (g f) : BI.Storable (upEmb : UEmb _ 𝕄) (packPts (F := F) c g f) := pts_storable _ _ _
omit [FloatOps F] in
instance recvPts_storable (c : Dev nD) (n f) : BI.Storable (upEmb : UEmb _ 𝕄) (recvPts (F := F) c n f) := pts_storable _ _ _

/-- The barrier's signal along axis `b`: the neighbour's landing places of the transfers along `b`. -/
def barPay (c : Dev nD) (b : Fin 3) : sProp 𝕄 :=
  bigSep (Finset.univ.filter fun n : Fin 12 => bitN n = b) fun n => iprop(∃ f, recvPts (F := F) (flip b c) n f)
def sendPay (c : Dev nD) (n : Fin 12) : sProp 𝕄 :=
  iprop(∃ f, ⌜rdAcc (tg n) f = sums m ρ (tr n).val c (tg n)⌝ ∗ packPts c (tg n) f)
def recvPay (c : Dev nD) (n : Fin 12) : sProp 𝕄 :=
  iprop(∃ f, ⌜rdIn (tg n) (tr n) f = asIn (sums m ρ (tr n).val (partner n c) (tg n))⌝ ∗ recvPts c n f)

/-! ## The schedule -/

def ringRd : Rounds.Schedule (GSem nD τ sig) (Fin 3) 𝕄 where
  duties g r := if r = 0 ∧ g.1.2 = .tc then
      (match roleOf g.2 with | .bar => Finset.univ | .send _ => {0} | .recv _ => {0} | .none => ∅) else ∅
  unitless _ := False
  amount g _ _ := match roleOf g.2 with | .bar => 1 | _ => N
  payload g _ d := match roleOf g.2 with
    | .bar => barPay g.1.1 d
    | .send n => sendPay m ρ g.1.1 n
    | .recv n => recvPay m ρ g.1.1 n
    | .none => iprop(emp)
  amount_pos g _ _ _ := by
    cases roleOf g.2 <;> first | exact Nat.one_pos | exact N_pos

instance ringRd_payload_storable (g : GSem nD τ sig) (r : ℕ) (d : Fin 3) :
    BI.Storable (upEmb : UEmb _ 𝕄) ((ringRd (F := F) m ρ).payload g r d) := by
  show BI.Storable upEmb (match roleOf g.2 with
    | .bar => barPay g.1.1 d
    | .send n => sendPay m ρ g.1.1 n
    | .recv n => recvPay m ρ g.1.1 n
    | .none => iprop(emp))
  unfold barPay recvPay sendPay
  split <;> infer_instance

section Sched
variable (c : Dev nD) (n : Fin 12)

theorem duties_bar : (ringRd (F := F) m ρ).duties (barCell c) 0 = Finset.univ := by
  dsimp only [ringRd]; rw [if_pos ⟨rfl, rfl⟩, role_bar]
theorem duties_send : (ringRd (F := F) m ρ).duties (sendCell c n) 0 = {0} := by
  dsimp only [ringRd]; rw [if_pos ⟨rfl, rfl⟩, role_send]
theorem duties_recv : (ringRd (F := F) m ρ).duties (recvCell c n) 0 = {0} := by
  dsimp only [ringRd]; rw [if_pos ⟨rfl, rfl⟩, role_recv]
theorem duties_later (g : GSem nD τ sig) : ∀ r, 1 ≤ r → (ringRd (F := F) m ρ).duties g r = ∅ :=
  fun r hr => by dsimp only [ringRd]; exact if_neg fun h => by omega

theorem amount_bar (d : Fin 3) : (ringRd (F := F) m ρ).amount (barCell c) 0 d = 1 := by dsimp only [ringRd]; rw [role_bar]
theorem amount_send (d : Fin 3) : (ringRd (F := F) m ρ).amount (sendCell c n) 0 d = N := by dsimp only [ringRd]; rw [role_send]
theorem amount_recv (d : Fin 3) : (ringRd (F := F) m ρ).amount (recvCell c n) 0 d = N := by dsimp only [ringRd]; rw [role_recv]

theorem payload_bar (d : Fin 3) : (ringRd (F := F) m ρ).payload (barCell c) 0 d = barPay c d := by dsimp only [ringRd]; rw [role_bar]
theorem payload_send (d : Fin 3) : (ringRd (F := F) m ρ).payload (sendCell c n) 0 d = sendPay m ρ c n := by dsimp only [ringRd]; rw [role_send]
theorem payload_recv (d : Fin 3) : (ringRd (F := F) m ρ).payload (recvCell c n) 0 d = recvPay m ρ c n := by dsimp only [ringRd]; rw [role_recv]

theorem expect_bar : (ringRd (F := F) m ρ).expect (barCell c) 0 = 3 := by
  unfold Schedule.expect Schedule.amountOf
  rw [duties_bar, Finset.sum_congr rfl fun d _ => amount_bar m ρ c d]; rfl
theorem expect_send : (ringRd (F := F) m ρ).expect (sendCell c n) 0 = N := by
  unfold Schedule.expect Schedule.amountOf; rw [duties_send, Finset.sum_singleton, amount_send]
theorem expect_recv : (ringRd (F := F) m ρ).expect (recvCell c n) 0 = N := by
  unfold Schedule.expect Schedule.amountOf; rw [duties_recv, Finset.sum_singleton, amount_recv]

/-- A family over the transfers, dealt by their axes. -/
theorem by_axis (Φ : Fin 12 → sProp 𝕄) :
    bigSep Finset.univ Φ = bigSep Finset.univ fun b : Fin 3 => bigSep (Finset.univ.filter fun n : Fin 12 => bitN n = b) Φ := by
  rw [bigSep_congr fun b _ => bigSep_filter Finset.univ (fun n : Fin 12 => bitN n = b) Φ,
    bigSep_univ_comm fun (b : Fin 3) (n : Fin 12) => if bitN n = b then Φ n else (BI.emp : sProp 𝕄)]
  refine bigSep_congr fun n _ => ?_
  rw [← bigSep_filter Finset.univ (fun b : Fin 3 => bitN n = b) fun _ => Φ n,
    show (Finset.univ.filter fun b : Fin 3 => bitN n = b) = {bitN n} from by ext b; simp [eq_comm], bigSep_singleton]

/-- The rest of the barrier's round: every partner's landing place. -/
theorem rest_bar : bigSep ((ringRd (F := F) m ρ).duties (barCell c) 0 \ ∅) (fun d => (ringRd (F := F) m ρ).payload (barCell c) 0 d)
    = bigSep Finset.univ fun n : Fin 12 => iprop(∃ f, recvPts (F := F) (partner n c) n f) := by
  rw [Finset.sdiff_empty, duties_bar, by_axis, bigSep_congr fun d _ => payload_bar m ρ c d]
  refine bigSep_congr fun b _ => ?_
  unfold barPay
  refine bigSep_congr fun n hn => ?_
  rw [← (Finset.mem_filter.mp hn).2]; rfl
theorem rest_send : bigSep ((ringRd (F := F) m ρ).duties (sendCell c n) 0 \ ∅) (fun d => (ringRd (F := F) m ρ).payload (sendCell c n) 0 d) = sendPay m ρ c n := by
  rw [Finset.sdiff_empty, duties_send, bigSep_singleton, payload_send]
theorem rest_recv : bigSep ((ringRd (F := F) m ρ).duties (recvCell c n) 0 \ ∅) (fun d => (ringRd (F := F) m ρ).payload (recvCell c n) 0 d) = recvPay m ρ c n := by
  rw [Finset.sdiff_empty, duties_recv, bigSep_singleton, payload_recv]

end Sched

/-! ## What each device owes; the levels -/

/-- What transfer `n` of device `c` credits. -/
def owe1 (c : Dev nD) (n : Fin 12) : CellTallies nD τ sig Unit := tallyAt (recvCell (partner n c) n) () N
/-- What device `c` owes by its transfers from the `n`-th on. -/
def owed (c : Dev nD) (n : ℕ) : CellTallies nD τ sig Unit := ∑ k ∈ Finset.univ.filter (fun k : Fin 12 => n ≤ k.val), owe1 c k
theorem owed_step (c : Dev nD) (n : Fin 12) : owed c n.val = owed c (n.val + 1) + owe1 c n := by
  unfold owed
  rw [show (Finset.univ.filter fun k : Fin 12 => n.val ≤ k.val) = insert n (Finset.univ.filter fun k : Fin 12 => n.val + 1 ≤ k.val) from by
      ext k; simp only [Finset.mem_filter, Finset.mem_univ, true_and, Finset.mem_insert, Fin.ext_iff]; omega,
    Finset.sum_insert (by simp), add_comm]
theorem owed_end (c : Dev nD) : owed c 12 = 0 := by
  unfold owed
  rw [show (Finset.univ.filter fun k : Fin 12 => 12 ≤ k.val) = ∅ from by ext k; have := k.isLt; simp, Finset.sum_empty]

/-- At the start also one unit to each neighbour's barrier. -/
def O₁ (c : Dev nD) : CellTallies nD τ sig Unit := owed c 0 + tallyAt (barCell (flip 2 c)) () 1
def O₂ (c : Dev nD) : CellTallies nD τ sig Unit := O₁ c + tallyAt (barCell (flip 1 c)) () 1
def O₀ (c : Dev nD) : CellTallies nD τ sig Unit := O₂ c + tallyAt (barCell (flip 0 c)) () 1

def L (g : GSem nD τ sig) : Finset Unit := if g.1.2 = .tc then {()} else ∅
def lv (g : GSem nD τ sig) (_ : Unit) : ℕ := match roleOf g.2 with | .bar => 1 | .recv n => 2 + n.val | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := by unfold lv; dsimp only; rw [role_bar]
theorem lv_recv (c : Dev nD) (n : Fin 12) (u : Unit) : lv (recvCell c n) u = 2 + n.val := by unfold lv; dsimp only; rw [role_recv]
theorem lv_send (c : Dev nD) (n : Fin 12) (u : Unit) : lv (sendCell c n) u = 0 := by unfold lv; dsimp only; rw [role_send]
theorem lv_low (c : Dev nD) (q : DmaSem sig) (hq : q.val < 8) (u : Unit) : lv ((c : Thread nD τ), .dma q) u = 0 := by
  unfold lv roleOf; dsimp only; rw [if_neg (fun h => by omega), if_neg (fun h => by omega)]

theorem tally_pos {g g' : GSem nD τ sig} {k : ℕ} {u : Unit} (h : 0 < tallyAt (sig := sig) g () k g' u) : g' = g := by
  rw [tallyAt_apply] at h
  by_contra hn
  rw [if_neg (fun h' => hn h'.1)] at h
  exact Nat.lt_irrefl 0 h
theorem owed_pos {c : Dev nD} {n : ℕ} {g : GSem nD τ sig} {u : Unit} (h : 0 < owed c n g u) :
    ∃ k : Fin 12, n ≤ k.val ∧ g = recvCell (partner k c) k := by
  unfold owed at h
  rw [Finset.sum_apply, Finsupp.finset_sum_apply] at h
  obtain ⟨k, hk, hp⟩ := Finset.exists_ne_zero_of_sum_ne_zero (Nat.pos_iff_ne_zero.mp h)
  exact ⟨k, (Finset.mem_filter.mp hk).2, tally_pos (Nat.pos_of_ne_zero hp)⟩
theorem O₀_pos {c : Dev nD} {g : GSem nD τ sig} {u : Unit} (h : 0 < O₀ c g u) :
    (∃ k : Fin 12, g = recvCell (partner k c) k) ∨ ∃ b, g = barCell (flip b c) := by
  unfold O₀ O₂ O₁ at h
  rw [Pi.add_apply, Finsupp.add_apply, Pi.add_apply, Finsupp.add_apply, Pi.add_apply, Finsupp.add_apply] at h
  have h4 : 0 < owed c 0 g u ∨ 0 < tallyAt (sig := sig) (barCell (flip 2 c)) () 1 g u ∨ 0 < tallyAt (sig := sig) (barCell (flip 1 c)) () 1 g u
      ∨ 0 < tallyAt (sig := sig) (barCell (flip 0 c)) () 1 g u := by omega
  rcases h4 with h | h | h | h
  · obtain ⟨k, _, hk⟩ := owed_pos h; exact .inl ⟨k, hk⟩
  · exact .inr ⟨2, tally_pos h⟩
  · exact .inr ⟨1, tally_pos h⟩
  · exact .inr ⟨0, tally_pos h⟩

/-- A wait at level `b` while owing the transfers from the `n`-th on. -/
theorem mayWait_owed (c : Dev nD) (sm : SemLoc sig) (b n : ℕ) (hb : b < 2 + n) (hl : ∀ u, lv ((c : Thread nD τ), sm) u ≤ b) :
    (levAts L lv : sProp 𝕄) ⊢ MayWait (c : Thread nD τ) sm () (owed c n) :=
  MayOwe.of_cut (L := L) (lev := lv) b (fun p hp => by rw [Finset.mem_singleton.mp hp, L_tc]; exact Finset.mem_singleton_self _)
    (fun g u hg => by obtain ⟨k, _, rfl⟩ := owed_pos hg; exact Finset.mem_singleton_self _)
    (fun p hp => by rw [Finset.mem_singleton.mp hp]; exact hl _)
    (fun g u hg => by obtain ⟨k, hk, rfl⟩ := owed_pos hg; rw [lv_recv]; omega)
/-- A staging wait before anything is paid, and after everything. -/
theorem mayWait_stage (c : Dev nD) (q : DmaSem sig) (hq : q.val < 8) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨k, rfl⟩ | ⟨b, rfl⟩ <;> exact Finset.mem_singleton_self _)
      (fun p hp => by rw [Finset.mem_singleton.mp hp]; exact le_of_eq (lv_low c q hq _))
      (fun g u hg => by
        rcases O₀_pos hg with ⟨k, rfl⟩ | ⟨b, rfl⟩
        · rw [lv_recv]; omega
        · rw [lv_bar]; decide)
  · rw [MayWait_zero]; iintro -; iempintro

end Cert.KernelIdeal.Ring
-- ==== Proof.KernelIdealSteps.lean ====
module

public import proofs.«01_k».proof.Proof.KernelIdealProto

/-!
# The phases, one rule each

Each phase of the body is run once, at a symbolic device and symbolic indices, from what it needs to what it leaves.
-/

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
local notation "ℙ" => ProgT F

variable (m : (ℓ : Loc nD τ sig) → Buf (Elt F) ℓ) (ρ : Dev nD → PrngReg)

abbrev 𝒱₀ : Variants := Variants.none

/-- The weakest precondition of a device's body. -/
abbrev WP (c : Dev nD) (p : ProgT F) (Q : PUnit → sProp 𝕄) : sProp 𝕄 :=
  wp frame (wpE (defs₀ (F := F)) 𝒱₀ (c : Thread nD τ) none) Set.univ p Q

/-- A whole buffer. -/
abbrev whole (c : Dev nD) (b : Ref sig .tc) (f : Buf (Elt F) ((c : Thread nD τ).loc b)) : sProp 𝕄 := ((c : Thread nD τ).loc b) ↦{fullShare} f

/-- Elements a load or a store of a whole buffer's rectangle touches. -/
theorem ld_sub (b : Ref sig .tc) (r : Rect b.ty.shape) (S : Finset b.ty.shape.Idx) (h : r.set ⊆ S) :
    (View.whole b).setOn r.toLoadRect.set ⊆ S := fun x hx =>
  h ((View.mem_setOn (v := View.whole b)).mp hx)
theorem st_sub (b : Ref sig .tc) (r : Rect b.ty.shape) (S : Finset b.ty.shape.Idx) (h : r.set ⊆ S) :
    ((View.whole b).slice r).setOn Finset.univ ⊆ S := by
  rw [View.setOn_univ, View.set_slice]; exact ld_sub b r S h

theorem hz2 : (![0, 0] : Fin 2 → Nat) = fun _ => 0 := funext fun a => by fin_cases a <;> rfl
theorem hz3 : (![0, 0, 0] : Fin 3 → Nat) = fun _ => 0 := funext fun a => by fin_cases a <;> rfl

omit [FloatOps F] in
theorem packPts_eq (c : Dev nD) (g : Fin 4) (f : PackC F) :
    (packPts c g f : sProp 𝕄) = (packM.view.loc (c : Thread nD τ) ↦[(rPack g).set]{fullShare} (f : Buf (Elt F) (packM.view.loc (c : Thread nD τ)))) := by
  unfold packPts
  show (packM.view.loc (c : Thread nD τ) ↦[(packOf g).view.set]{fullShare} (f : Buf (Elt F) (packM.view.loc (c : Thread nD τ))) : sProp 𝕄) = _
  rw [pack_set]
omit [FloatOps F] in
theorem recvPts_eq (c : Dev nD) (n : Fin 12) (f : RecvC F) :
    (recvPts c n f : sProp 𝕄) = (recvM.view.loc (c : Thread nD τ) ↦[(rRecv (tg n) (tr n)).set]{fullShare} (f : Buf (Elt F) (recvM.view.loc (c : Thread nD τ)))) := by
  unfold recvPts
  show (recvM.view.loc (c : Thread nD τ) ↦[(recvOf (tg n) (tr n)).view.set]{fullShare} (f : Buf (Elt F) (recvM.view.loc (c : Thread nD τ))) : sProp 𝕄) = _
  rw [recv_set]

/-! ## The queries -/

theorem step_query (c : Dev nD) (k : ℙ) (Q : PUnit → sProp 𝕄) :
    iprop(whole c cc0_stg0_0 (xAt m ρ c) ∗ whole c cc0_stg1_0 (wqAt m ρ c) ∗ (∃ f, whole c cc0_scratch2 f))
      ⊢ iprop((iprop(whole c cc0_stg0_0 (xAt m ρ c) ∗ whole c cc0_stg1_0 (wqAt m ρ c) ∗ whole c cc0_scratch2 (qAt m ρ c)) -∗ WP c k Q) -∗ WP c (queryK k) Q) := by
  unfold queryK
  iintro ⟨Hx, Hw, ⟨%f, Hq⟩⟩ Hk
  iapply (wp_load 𝒱₀ (c : Thread nD τ) none Set.univ (m := xM) (Finset.subset_univ _)) $$ Hx; iintro Hx
  iapply (wp_load 𝒱₀ (c : Thread nD τ) none Set.univ (m := wqM) (Finset.subset_univ _)) $$ Hw; iintro Hw
  iapply (wp_load 𝒱₀ (c : Thread nD τ) none Set.univ (m := qM) (Finset.subset_univ _)) $$ Hq; iintro Hq
  iapply (wp_store 𝒱₀ (c : Thread nD τ) none Set.univ (m := qM) (r := rQs) (Mk := Finset.univ) (Finset.subset_univ _)) $$ Hq; iintro Hq
  rw [show xM.view.readAt (Elt F) rX.toLoadRect (xAt m ρ c) = xAt m ρ c from Memref.readAt_unit_zero (Elt F) cc0_stg0_0 hz3 _ _,
    show wqM.view.readAt (Elt F) rWq.toLoadRect (wqAt m ρ c) = wqAt m ρ c from Memref.readAt_unit_zero (Elt F) cc0_stg1_0 hz2 _ _,
    show (qM.access rQs).write (Elt F) f (k0_pay1 (xAt m ρ c) (wqAt m ρ c)) Finset.univ = qAt m ρ c from
      Memref.write_access_unit_zero_univ (Elt F) cc0_scratch2 hz2 _ _ _]
  iapply Hk
  isplitl [Hx]; · iexact Hx
  isplitl [Hw] <;> iassumption

/-! ## The copies of the keys and the values -/

section Copies
variable (c : Dev nD) (A : Memref sig .tc .hbm S1x4096x8x128 .f32) (B : Memref sig .tc .vmem S2x4096x128 .f32)
  (fA : Buf (Elt F) (A.view.loc (c : Thread nD τ)))

/-- The share of the array that slot `s`'s copies read through. -/
def qs (s : Fin 2) : PosShare TreeShare := if s = 0 then fullShare.left else fullShare.right

def slotPts (s : Fin 2) (f : Buf (Elt F) ((slotOf B s).view.loc (c : Thread nD τ))) : sProp 𝕄 :=
  (slotOf B s).view.loc (c : Thread nD τ) ↦[(slotOf B s).view.set]{fullShare} f
abbrev NS (s : Fin 2) : ℕ := (slotOf B s).view.dmaCredit
theorem NS_pos (s : Fin 2) : 0 < NS B s := View.dmaCredit_pos _ (by decide)
omit [FloatOps F] in
theorem slotPts_eq (s : Fin 2) (f : Buf (Elt F) (B.view.loc (c : Thread nD τ))) :
    (slotPts c B s f : sProp 𝕄) = (B.view.loc (c : Thread nD τ) ↦[(B.view.slice (rSlot s)).set]{fullShare} f) := by
  unfold slotPts
  show (B.view.loc (c : Thread nD τ) ↦[(slotOf B s).view.set]{fullShare} f : sProp 𝕄) = _
  rw [slot_set]
/-- Slot `s` at rest: its own elements, its share of the array, its semaphore at zero. -/
def atRest (s j : Fin 2) : sProp 𝕄 :=
  iprop((∃ f, slotPts c B s f) ∗ (A.view.loc (c : Thread nD τ) ↦{qs s} fA) ∗ semVal ((c : Thread nD τ), .dma (kvSem s j)) 0)
/-- The copy of head `h` in flight into its slot. -/
def inFlight (h : Fin 8) (j : Fin 2) : sProp 𝕄 :=
  iprop((∃ fd, Transfers.Flight (EC (F := F)) (c : Thread nD τ) (.dma (kvSem (par h) j)) () (NS B (par h))
      iprop(slotPts c B (par h) ((slotOf B (par h)).view.write (Elt F) fd ((headOf A h).view.read (Elt F) fA) Finset.univ)
        ∗ ((headOf A h).view.loc (c : Thread nD τ) ↦[(headOf A h).view.set]{qs (par h)} fA)))
    ∗ (A.view.loc (c : Thread nD τ) ↦[Finset.univ \ (headOf A h).view.set]{qs (par h)} fA))
/-- Slot of `h` holding head `h`. -/
def filled (h : Fin 8) (j : Fin 2) : sProp 𝕄 :=
  iprop((∃ f, ⌜B.view.readAt (Elt F) (rSlot (par h)).toLoadRect f = kvBlk A h fA⌝ ∗ slotPts c B (par h) f)
    ∗ (A.view.loc (c : Thread nD τ) ↦{qs (par h)} fA) ∗ semVal ((c : Thread nD τ), .dma (kvSem (par h) j)) 0)

theorem filled_rest (h : Fin 8) (j : Fin 2) : filled c A B fA h j ⊢ atRest c A B fA (par h) j := by
  unfold filled atRest
  iintro ⟨⟨%f, -, H⟩, Hr⟩
  isplitl [H]; · iexists f; iexact H
  iexact Hr

theorem step_copy (h : Fin 8) (j : Fin 2) (k : ℙ) (Q : PUnit → sProp 𝕄) :
    atRest c A B fA (par h) j ⊢ iprop((inFlight c A B fA h j -∗ WP c k Q) -∗ WP c (copyK A B h j k) Q) := by
  unfold copyK atRest inFlight
  iintro ⟨⟨%fd, Hd⟩, HA, Hv⟩ Hk
  ihave HA' := (pointsTo_split_subset (Finset.subset_univ (headOf A h).view.set)).1 $$ HA
  icases HA' with ⟨Hs, HA⟩
  iapply (Transfers.wp_dmaLocal (EC (F := F)) 𝒱₀ (c : Thread nD τ) none (src := headOf A h) (dst := slotOf B (par h)) (sm := .dma (kvSem (par h) j))
    (q := qs (par h)) (fs := fA) (fd := fd) () (NS B (par h)) rfl (NS_pos B (par h)) (Finset.Subset.refl _)) $$ [Hs Hd Hv]
  · isplitl [Hs]; · iexact Hs
    isplitl [Hd]; · unfold slotPts; iexact Hd
    iexact Hv
  iintro HF
  iapply Hk
  isplitl [HF]
  · iexists fd; unfold slotPts; iexact HF
  iexact HA

theorem step_await (h : Fin 8) (j : Fin 2) (n : ℕ) (k : ℙ) (Q : PUnit → sProp 𝕄) :
    iprop(inFlight c A B fA h j ∗ (∃ W, owes (c : Thread nD τ) (owed c n) W) ∗ levAts L lv)
      ⊢ iprop((iprop(filled c A B fA h j ∗ (∃ W, owes (c : Thread nD τ) (owed c n) W)) -∗ WP c k Q) -∗ WP c (waitK A B h j k) Q) := by
  unfold waitK inFlight filled
  iintro ⟨⟨⟨%fd, HF⟩, HA⟩, ⟨%W, HO⟩, Hlev⟩ Hk
  iapply (Transfers.wp_waitLocalO (EC (F := F)) 𝒱₀ (c : Thread nD τ) none () (N := NS B (par h)) rfl (O := owed c n) (W := W)) $$ [HF HO Hlev]
  · isplitl [HF]; · iexact HF
    isplitl [HO]; · iexact HO
    iapply (mayWait_owed c (.dma (kvSem (par h) j)) 0 n (by omega)
      (fun u => le_of_eq (lv_low c _ (by rw [kvSem_val]; have := (par h).isLt; have := j.isLt; omega) u))) $$ Hlev
  iintro ⟨⟨Hd, Hs⟩, Hv, HO⟩
  iapply Hk
  isplitl [Hd Hs HA Hv]
  · isplitl [Hd]
    · iexists _
      isplitr
      · ipureintro
        exact (slot_read cc0_scratch0 (par h) B _).trans (congrArg asSlot (View.read_write_univ (v := (slotOf B (par h)).view) fd _))
      iexact Hd
    isplitl [Hs HA]
    · iapply (pointsTo_split_subset (Finset.subset_univ (headOf A h).view.set)).2
      isplitl [Hs]; · iexact Hs
      iexact HA
    iexact Hv
  iexists _; iexact HO

end Copies

/-! ## The sums -/

/-- What group `g`'s columns hold once the heads before `h` are summed. -/
def Summed (c : Dev nD) (h : ℕ) (g : Fin 4) (f : PackC F) : Prop :=
  ∀ i, (hd g i).val < h → rdO g i f = oAt m ρ c (hd g i) ∧ rdL g i f = lAt m ρ c (hd g i)

theorem summed_all (c : Dev nD) (g : Fin 4) (f : PackC F) (h : ℕ) (hh : 2 * g.val + 2 ≤ h) (hf : Summed m ρ c h g f) :
    rdAcc g f = sums m ρ 0 c g := by
  have hi : ∀ i : Fin 2, (hd g i).val < h := fun i => by show 2 * g.val + i.val < h; omega
  exact acc_ext g f _ (fun i => (hf i (hi i)).1.trans (base_O m ρ c g i).symm) (fun i => (hf i (hi i)).2.trans (base_L m ρ c g i).symm)

theorem summed_step (c : Dev nD) (h : Fin 8) (f : PackC F) (hf : Summed m ρ c h.val (grp h) f) :
    Summed m ρ c (h.val + 1) (grp h) (wrL (grp h) (par h) (wrO (grp h) (par h) f (oAt m ρ c h)) (lAt m ρ c h)) := by
  intro i hi
  by_cases e : i = par h
  · subst e
    rw [hd_grp_par]
    exact ⟨by rw [rdO_wrL, rdO_wrO], by rw [rdL_wrL]⟩
  · have hlt : (hd (grp h) i).val < h.val := by
      refine lt_of_le_of_ne (Nat.lt_succ_iff.mp hi) fun he => e ?_
      have := congrArg par (Fin.ext he : hd (grp h) i = h)
      rwa [par_hd] at this
    rw [rdO_wrL, rdO_wrO_ne _ e, rdL_wrL_ne _ e, rdL_wrO]
    exact hf i hlt

theorem step_sums (c : Dev nD) (h : Fin 8) (k : ℙ) (Q : PUnit → sProp 𝕄) :
    iprop(filled c kM kB (kAt m ρ c) h 0 ∗ filled c vM vB (vAt m ρ c) h 1 ∗ whole c cc0_scratch2 (qAt m ρ c)
        ∗ (∃ f, ⌜Summed m ρ c h.val (grp h) f⌝ ∗ packPts c (grp h) f))
      ⊢ iprop((iprop(filled c kM kB (kAt m ρ c) h 0 ∗ filled c vM vB (vAt m ρ c) h 1 ∗ whole c cc0_scratch2 (qAt m ρ c)
        ∗ (∃ f, ⌜Summed m ρ c (h.val + 1) (grp h) f⌝ ∗ packPts c (grp h) f)) -∗ WP c k Q) -∗ WP c (sumsK h k) Q) := by
  unfold sumsK filled
  iintro ⟨⟨⟨%fk, %hk, Hkb⟩, Hkr⟩, ⟨⟨%fv, %hv, Hvb⟩, Hvr⟩, Hq, ⟨%f, %hf, Hp⟩⟩ Hk
  simp only [slotPts_eq, packPts_eq]
  iapply (wp_load 𝒱₀ (c : Thread nD τ) none Set.univ (m := qM) (Finset.subset_univ _)) $$ Hq; iintro Hq
  iapply (wp_load 𝒱₀ (c : Thread nD τ) none Set.univ (m := kB) (S := (kB.view.slice (rSlot (par h))).set) (by rw [View.set_slice]; exact Finset.Subset.refl _)) $$ Hkb; iintro Hkb
  iapply (wp_load 𝒱₀ (c : Thread nD τ) none Set.univ (m := vB) (S := (vB.view.slice (rSlot (par h))).set) (by rw [View.set_slice]; exact Finset.Subset.refl _)) $$ Hvb; iintro Hvb
  rw [hk, hv]
  iapply (wp_load 𝒱₀ (c : Thread nD τ) none Set.univ (m := packM)
    (ld_sub cc0_scratch3 (rO (grp h) (par h)) _ (O_sub _ _))) $$ Hp; iintro Hp
  iapply (wp_store 𝒱₀ (c : Thread nD τ) none Set.univ (m := packM) (r := rO (grp h) (par h)) (Mk := Finset.univ)
    (st_sub cc0_scratch3 (rO (grp h) (par h)) _ (O_sub _ _))) $$ Hp; iintro Hp
  iapply (wp_load 𝒱₀ (c : Thread nD τ) none Set.univ (m := packM)
    (ld_sub cc0_scratch3 (rL (grp h) (par h)) _ (L_sub _ _))) $$ Hp; iintro Hp
  iapply (wp_store 𝒱₀ (c : Thread nD τ) none Set.univ (m := packM) (r := rL (grp h) (par h)) (Mk := Finset.univ)
    (st_sub cc0_scratch3 (rL (grp h) (par h)) _ (L_sub _ _))) $$ Hp; iintro Hp
  iapply Hk
  isplitl [Hkb Hkr]
  · isplitl [Hkb]
    · iexists fk
      isplitr; · (ipureintro; exact hk)
      iexact Hkb
    iexact Hkr
  isplitl [Hvb Hvr]
  · isplitl [Hvb]
    · iexists fv
      isplitr; · (ipureintro; exact hv)
      iexact Hvb
    iexact Hvr
  isplitl [Hq]; · iexact Hq
  iexists (wrL (grp h) (par h) (wrO (grp h) (par h) f (oAt m ρ c h)) (lAt m ρ c h))
  isplitr; · (ipureintro; exact summed_step m ρ c h f hf)
  iexact Hp

end Cert.KernelIdeal.Ring
-- ==== Proof.KernelIdealRounds.lean ====
module

public import proofs.«01_k».proof.Proof.KernelIdealSteps

/-!
# The state of a device between phases, and the phases that move it

`core c h s a` is the state of device `c`'s exchange once the heads before `h` are summed, the transfers before `s` sent
and those before `a` awaited and added.
-/

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
local notation "ℙ" => ProgT F

variable (m : (ℓ : Loc nD τ sig) → Buf (Elt F) ℓ) (ρ : Dev nD → PrngReg)

/-! ## The records -/

/-- A device's protocol semaphores: the barrier, the send and the receive semaphores. -/
abbrev CK : Type := Unit ⊕ (Fin 12 ⊕ Fin 12)
abbrev csem : CK → SemLoc sig
  | .inl _ => .reg barS
  | .inr (.inl n) => .dma (sendSem (tg n) (tr n))
  | .inr (.inr n) => .dma (recvSem (tg n) (tr n))
abbrev kcell (ck : Dev nD × CK) : GSem nD τ sig := ((ck.1 : Thread nD τ), csem ck.2)

def recs (K : Dev nD × CK → ℕ) : sProp 𝕄 :=
  iprop((bigSep Finset.univ fun ck : Dev nD × CK => cellInv ER (ringRd m ρ) (K ck) (kcell ck))
    ∗ (bigSep Finset.univ fun ck : Dev nD × CK => reached (ER (F := F)) (kcell ck) 0) ∗ levAts L lv)

instance recs_persistent (K) : BI.Persistent (recs m ρ K) := by unfold recs; infer_instance

variable (K : Dev nD × CK → ℕ)

theorem recs_inv (ck : Dev nD × CK) : recs m ρ K ⊢ cellInv ER (ringRd m ρ) (K ck) (kcell ck) := by
  unfold recs
  iintro ⟨H, -, -⟩
  iapply (show (bigSep Finset.univ fun ck : Dev nD × CK => (cellInv ER (ringRd m ρ) (K ck) (kcell ck) : sProp 𝕄))
    ⊢ cellInv ER (ringRd m ρ) (K ck) (kcell ck) from bigSep_elim (Finset.mem_univ ck)) $$ H
theorem recs_reached (ck : Dev nD × CK) : recs m ρ K ⊢ reached (ER (F := F)) (kcell ck) 0 := by
  unfold recs
  iintro ⟨-, H, -⟩
  iapply (show (bigSep Finset.univ fun ck : Dev nD × CK => (reached ER (kcell ck) 0 : sProp 𝕄))
    ⊢ reached ER (kcell ck) 0 from bigSep_elim (Finset.mem_univ ck)) $$ H
theorem recs_lev : recs m ρ K ⊢ levAts L lv := by
  unfold recs
  iintro ⟨-, -, H⟩
  iexact H

/-! ## One transfer -/

/-- Transfer `n` before it is sent, but for the partner's landing place. -/
def unsent₀ (c : Dev nD) (n : Fin 12) : sProp 𝕄 :=
  iprop(atPos ER (sendCell c n) 0 ∅ 0 ∗ atPos ER (recvCell c n) 0 ∅ 0 ∗ dutyTok ER (sendCell c n) 0 0
    ∗ dutyTok ER (recvCell (partner n c) n) 0 0 ∗ cred (tallyAt (recvCell c n) () N))
def unsent (c : Dev nD) (n : Fin 12) : sProp 𝕄 := iprop(unsent₀ c n ∗ ∃ f, recvPts (F := F) (partner n c) n f)
/-- Sent, not awaited. -/
def sent (c : Dev nD) (n : Fin 12) : sProp 𝕄 :=
  iprop(atPos ER (sendCell c n) 0 ∅ 0 ∗ atPos ER (recvCell c n) 0 ∅ 0 ∗ cred (tallyAt (recvCell c n) () N) ∗ cred (tallyAt (sendCell c n) () N))
/-- Awaited: both semaphores closed at zero, the landing place the device's again. -/
def done (c : Dev nD) (n : Fin 12) : sProp 𝕄 :=
  iprop(semVal (sendCell c n) 0 ∗ semVal (recvCell c n) 0 ∗ ∃ f, recvPts (F := F) c n f)

theorem wp_xfer' (c x : Dev nD) (n : Fin 12) (hx : x = partner n c)
    {hsc : (recvOf (tg n) (tr n) : Memref sig (Dev.tc x : Thread nD τ).2.kind .vmem S256x384 .bf16).view.ref.isScScratch = false}
    {hsrc : (packOf (tg n)).view.WordExact} {hdst : (recvOf (tg n) (tr n)).view.WordExact}
    {hsem : DmaTarget.Typed .vmem (.dma (recvSem (tg n) (tr n)))
      (.remote (Dev.tc x : Thread nD τ) (recvOf (tg n) (tr n)) (.dma (sendSem (tg n) (tr n))) hsc)}
    (k : ℙ) (Q : PUnit → sProp 𝕄) (fs : PackC F) (fd : RecvC F) (W : Waits sig Unit)
    (hfs : rdAcc (tg n) fs = sums m ρ (tr n).val c (tg n)) :
    iprop(recs m ρ K ∗ packPts c (tg n) fs ∗ recvPts (partner n c) n fd ∗ owes (c : Thread nD τ) (owed c n.val) W
        ∗ dutyTok ER (sendCell c n) 0 0 ∗ dutyTok ER (recvCell (partner n c) n) 0 0)
      ⊢ iprop((iprop(cred (tallyAt (sendCell c n) () N) ∗ owes (c : Thread nD τ) (owed c (n.val + 1)) W) -∗ WP c k Q)
        -∗ WP c (.op (.enqueueDma (packOf (tg n)) (.remote (Dev.tc x : Thread nD τ) (recvOf (tg n) (tr n)) (.dma (sendSem (tg n) (tr n))) hsc)
            (.dma (recvSem (tg n) (tr n))) hsrc hdst hsem) fun _ => k) Q) := by
  subst hx
  iintro ⟨#HR, Hp, Hd, HO, Ht, Ht'⟩ Hk
  iapply (Rounds.wp_send_pointsTo 𝒱₀ ER (ringRd m ρ) (c : Thread nD τ) none (c' := (partner n c : Thread nD τ))
    (src := packOf (tg n)) (dst := recvOf (tg n) (tr n)) (sS := .dma (sendSem (tg n) (tr n))) (sem := .dma (recvSem (tg n) (tr n)))
    (κ₁ := K (c, .inr (.inl n))) (κ₂ := K (partner n c, .inr (.inr n)))
    (r₁ := 0) (r₂ := 0) (d₁ := 0) (d₂ := 0) (fs := fs) (fd := fd) (q := fullShare)
    (by rw [duties_send]; exact Finset.mem_singleton_self _) (by rw [duties_recv]; exact Finset.mem_singleton_self _)
    () () N rfl (amount_send m ρ c n 0) (amount_recv m ρ (partner n c) n 0) (owed c (n.val + 1)) (owed_step c n) (W := W)
    (by
      rw [payload_send]; unfold sendPay packPts
      iintro H; iexists fs
      isplitr; · (ipureintro; exact hfs)
      iexact H)
    (by
      rw [payload_recv]; unfold recvPay recvPts
      iintro H; iexists _
      isplitr
      · ipureintro
        exact (land_read (tg n) (tr n) fd fs).trans (by rw [hfs, partner_partner])
      iexact H)) $$ [Hp Hd HO Ht Ht']
  · isplitr; · iapply (recs_inv m ρ K (c, .inr (.inl n))); iexact HR
    isplitr; · iapply (recs_inv m ρ K (partner n c, .inr (.inr n))); iexact HR
    isplitl [Hp]; · unfold packPts; iexact Hp
    isplitl [Hd]; · unfold recvPts; iexact Hd
    isplitl [HO]; · iexact HO
    isplitl [Ht]; · iexact Ht
    isplitr; · iapply (recs_reached m ρ K (c, .inr (.inl n))); iexact HR
    isplitl [Ht']; · iexact Ht'
    iapply (recs_reached m ρ K (partner n c, .inr (.inr n))); iexact HR
  iintro H
  iapply Hk; iexact H

theorem wp_xfer (c : Dev nD) (n : Fin 12) (k : ℙ) (Q : PUnit → sProp 𝕄) (fs : PackC F) (fd : RecvC F) (W : Waits sig Unit)
    (hfs : rdAcc (tg n) fs = sums m ρ (tr n).val c (tg n)) :
    iprop(recs m ρ K ∗ packPts c (tg n) fs ∗ recvPts (partner n c) n fd ∗ owes (c : Thread nD τ) (owed c n.val) W
        ∗ dutyTok ER (sendCell c n) 0 0 ∗ dutyTok ER (recvCell (partner n c) n) 0 0)
      ⊢ iprop((iprop(cred (tallyAt (sendCell c n) () N) ∗ owes (c : Thread nD τ) (owed c (n.val + 1)) W) -∗ WP c k Q) -∗ WP c (sendK c n k) Q) :=
  wp_xfer' m ρ K c (devN c n) n (devN_eq c n) k Q fs fd W hfs

theorem wp_add (c : Dev nD) (n : Fin 12) (s : ℕ) (hs : n.val < s) (k : ℙ) (Q : PUnit → sProp 𝕄) :
    iprop(recs m ρ K ∗ sent c n ∗ (∃ W, owes (c : Thread nD τ) (owed c s) W))
      ⊢ iprop((iprop(done c n ∗ (∃ f, ⌜rdAcc (tg n) f = sums m ρ ((tr n).val + 1) c (tg n)⌝ ∗ packPts c (tg n) f)
          ∗ (∃ W, owes (c : Thread nD τ) (owed c s) W)) -∗ WP c k Q) -∗ WP c (addK n k) Q) := by
  unfold addK sent done
  iintro ⟨#HR, ⟨HatS, HatV, HcV, HcS⟩, ⟨%W, HO⟩⟩ Hk
  iapply (Rounds.wp_wait_rest_token 𝒱₀ ER (ringRd m ρ) (c : Thread nD τ) none (κ := K (c, .inr (.inl n))) (sm := .dma (sendSem (tg n) (tr n)))
      (wpE_waitDma2_eq 𝒱₀ (c : Thread nD τ) none Set.univ) (Set.mem_univ _) () (O := owed c s) (W := W) (R := 0) (m := 0) (T := ∅)
      (by rw [Nat.zero_add, expect_send])) $$ [HcS HO HatS]
  · isplitr; · iapply (recs_inv m ρ K (c, .inr (.inl n))); iexact HR
    isplitl [HcS]; · iexact HcS
    isplitl [HO]; · iexact HO
    isplitr
    · iapply (mayWait_owed c (.dma (sendSem (tg n) (tr n))) 0 s (by omega) (fun u => le_of_eq (lv_send c n u)))
      iapply (recs_lev m ρ K); iexact HR
    iexact HatS
  iintro ⟨HO, HatS, -, Hpay⟩
  ihave Hp := (Entails.of_eq (rest_send m ρ c n)) $$ Hpay
  iapply (Rounds.wp_wait_rest_token 𝒱₀ ER (ringRd m ρ) (c : Thread nD τ) none (κ := K (c, .inr (.inr n))) (sm := .dma (recvSem (tg n) (tr n)))
      (wpE_waitDma2_eq 𝒱₀ (c : Thread nD τ) none Set.univ) (Set.mem_univ _) () (O := owed c s)
      (W := insert (SemLoc.dma (sendSem (tg n) (tr n)), ()) W) (R := 0) (m := 0) (T := ∅)
      (by rw [Nat.zero_add, expect_recv])) $$ [HcV HO HatV]
  · isplitr; · iapply (recs_inv m ρ K (c, .inr (.inr n))); iexact HR
    isplitl [HcV]; · iexact HcV
    isplitl [HO]; · iexact HO
    isplitr
    · iapply (mayWait_owed c (.dma (recvSem (tg n) (tr n))) (2 + n.val) s (by omega) (fun u => le_of_eq (lv_recv c n u)))
      iapply (recs_lev m ρ K); iexact HR
    iexact HatV
  iintro ⟨HO, HatV, -, Hpay⟩
  ihave Hv := (Entails.of_eq (rest_recv m ρ c n)) $$ Hpay
  imod (Rounds.cell_close ER (ringRd m ρ) (Set.mem_univ (K (c, .inr (.inl n)))) (fun h => h) (R := 0 + 1) (duties_later m ρ (sendCell c n))) $$ [HatS] with HzS
  · isplitr; · iapply (recs_inv m ρ K (c, .inr (.inl n))); iexact HR
    iexact HatS
  imod (Rounds.cell_close ER (ringRd m ρ) (Set.mem_univ (K (c, .inr (.inr n)))) (fun h => h) (R := 0 + 1) (duties_later m ρ (recvCell c n))) $$ [HatV] with HzV
  · isplitr; · iapply (recs_inv m ρ K (c, .inr (.inr n))); iexact HR
    iexact HatV
  unfold sendPay recvPay
  icases Hp with ⟨%f, %hf, Hp⟩
  icases Hv with ⟨%g, %hg, Hv⟩
  simp only [packPts_eq, recvPts_eq]
  iapply (wp_load 𝒱₀ (c : Thread nD τ) none Set.univ (m := packM) (ld_sub cc0_scratch3 (rAcc (tg n)) _ (acc_sub _))) $$ Hp; iintro Hp
  iapply (wp_load 𝒱₀ (c : Thread nD τ) none Set.univ (m := recvM) (ld_sub cc0_scratch4 (rIn (tg n) (tr n)) _ (in_sub _ _))) $$ Hv; iintro Hv
  iapply (wp_load 𝒱₀ (c : Thread nD τ) none Set.univ (m := packM) (ld_sub cc0_scratch3 (rAcc (tg n)) _ (acc_sub _))) $$ Hp; iintro Hp
  iapply (wp_store 𝒱₀ (c : Thread nD τ) none Set.univ (m := packM) (r := rAcc (tg n)) (Mk := Finset.univ)
    (st_sub cc0_scratch3 (rAcc (tg n)) _ (acc_sub _))) $$ Hp; iintro Hp
  iapply Hk
  isplitl [HzS HzV Hv]
  · isplitl [HzS]; · iexact HzS
    isplitl [HzV]; · iexact HzV
    iexists g; iexact Hv
  isplitl [Hp]
  · iexists (wrAcc (tg n) f (k0_pay31 (rdAcc (tg n) f) (rdIn (tg n) (tr n) g)))
    isplitr
    · ipureintro
      rw [rdAcc_wrAcc, hf, hg]; rfl
    iexact Hp
  iexists _; iexact HO

/-! ## The whole exchange -/

/-- How many transfers of group `g` are among the first `s`. -/
def cnt (s : ℕ) (g : Fin 4) : ℕ := (s + 3 - g.val) / 4

theorem cnt_self (n : Fin 12) : cnt n.val (tg n) = (tr n).val := by revert n; decide
theorem cnt_succ (n : Fin 12) : cnt (n.val + 1) (tg n) = (tr n).val + 1 := by revert n; decide
theorem cnt_other (n : Fin 12) (g : Fin 4) (h : g ≠ tg n) : cnt (n.val + 1) g = cnt n.val g := by revert n g; decide

/-- Transfer `n` once those before `s` are sent and those before `a` awaited. -/
def xs (c : Dev nD) (s a : ℕ) (n : Fin 12) : sProp 𝕄 := if n.val < a then done c n else if n.val < s then sent c n else unsent c n

/-- What group `g`'s columns then hold; in flight they are not the device's. -/
def Held (c : Dev nD) (h a : ℕ) (g : Fin 4) (f : PackC F) : Prop :=
  if cnt a g = 0 then Summed m ρ c h g f else rdAcc g f = sums m ρ (cnt a g) c g
def pk (c : Dev nD) (h s a : ℕ) (g : Fin 4) : sProp 𝕄 :=
  if cnt s g = cnt a g then iprop(∃ f, ⌜Held m ρ c h a g f⌝ ∗ packPts c g f) else iprop(emp)

def core (c : Dev nD) (h s a : ℕ) : sProp 𝕄 :=
  iprop(recs m ρ K ∗ bigSep Finset.univ (xs c s a) ∗ bigSep Finset.univ (pk m ρ c h s a) ∗ ∃ W, owes (c : Thread nD τ) (owed c s) W)

/-- One member of a family changes. -/
theorem bigSep_move {ι : Type} [Fintype ι] [DecidableEq ι] (Φ Ψ : ι → sProp 𝕄) (i : ι) (h : ∀ j, j ≠ i → Φ j = Ψ j) :
    bigSep Finset.univ Φ ⊢ iprop(Φ i ∗ (Ψ i -∗ bigSep Finset.univ Ψ)) := by
  have e₁ : bigSep Finset.univ Φ = iprop(Φ i ∗ bigSep (Finset.univ.erase i) Φ) := bigSep_erase (Finset.mem_univ i)
  have e₂ : bigSep Finset.univ Ψ = iprop(Ψ i ∗ bigSep (Finset.univ.erase i) Ψ) := bigSep_erase (Finset.mem_univ i)
  rw [e₁, e₂, bigSep_congr (s := Finset.univ.erase i) (Φ := Φ) (Ψ := Ψ) fun j hj => h j (Finset.ne_of_mem_erase hj)]
  iintro ⟨Hi, Hr⟩
  isplitl [Hi]; · iexact Hi
  iintro H
  isplitl [H] <;> iassumption

theorem step_send (c : Dev nD) (n : Fin 12) (h a : ℕ) (ha : cnt a (tg n) = (tr n).val) (han : a ≤ n.val)
    (hh : (tr n).val = 0 → 2 * (tg n).val + 2 ≤ h) (k : ℙ) (Q : PUnit → sProp 𝕄) :
    core m ρ K c h n.val a ⊢ iprop((core m ρ K c h (n.val + 1) a -∗ WP c k Q) -∗ WP c (sendK c n k) Q) := by
  unfold core
  iintro ⟨#HR, Hx, Hp, ⟨%W, HO⟩⟩ Hk
  ihave Hx' := (bigSep_move (xs c n.val a) (xs c (n.val + 1) a) n (fun j hj => by
    have hne : j.val ≠ n.val := fun e => hj (Fin.ext e)
    unfold xs
    by_cases h1 : j.val < a
    · rw [if_pos h1, if_pos h1]
    · rw [if_neg h1, if_neg h1]
      by_cases h2 : j.val < n.val
      · rw [if_pos h2, if_pos (by omega)]
      · rw [if_neg h2, if_neg (by omega)])) $$ Hx
  ihave Hp' := (bigSep_move (pk m ρ c h n.val a) (pk m ρ c h (n.val + 1) a) (tg n) (fun g hg => by
    unfold pk; rw [cnt_other n g hg])) $$ Hp
  icases Hx' with ⟨Hx, Hxs⟩
  icases Hp' with ⟨Hp, Hps⟩
  ihave Hx := (Entails.of_eq (show xs c n.val a n = unsent (F := F) c n by
    unfold xs; rw [if_neg (by omega), if_neg (by omega)])) $$ Hx
  ihave Hp := (Entails.of_eq (show pk m ρ c h n.val a (tg n) = iprop(∃ f, ⌜Held m ρ c h a (tg n) f⌝ ∗ packPts c (tg n) f) by
    unfold pk; rw [if_pos (by rw [ha, cnt_self])])) $$ Hp
  icases Hp with ⟨%f, %hf, Hp⟩
  unfold unsent unsent₀
  icases Hx with ⟨⟨H1, H2, H3, H4, H5⟩, ⟨%fd, Hd⟩⟩
  have hfs : rdAcc (tg n) f = sums m ρ (tr n).val c (tg n) := by
    unfold Held at hf
    rw [ha] at hf
    by_cases h0 : (tr n).val = 0
    · rw [if_pos h0] at hf
      rw [h0]; exact summed_all m ρ c (tg n) f h (hh h0) hf
    · rwa [if_neg h0] at hf
  iapply (wp_xfer m ρ K c n k Q f fd W hfs) $$ [Hp Hd HO H3 H4]
  · isplitr; · iexact HR
    isplitl [Hp]; · iexact Hp
    isplitl [Hd]; · iexact Hd
    isplitl [HO]; · iexact HO
    isplitl [H3] <;> iassumption
  iintro ⟨Hc, HO⟩
  iapply Hk
  isplitr; · iexact HR
  isplitl [Hxs H1 H2 H5 Hc]
  · iapply Hxs
    iapply (Entails.of_eq (show sent (F := F) c n = xs c (n.val + 1) a n by
      unfold xs; rw [if_neg (by omega), if_pos (by omega)]))
    unfold sent
    isplitl [H1]; · iexact H1
    isplitl [H2]; · iexact H2
    isplitl [H5] <;> iassumption
  isplitl [Hps]
  · iapply Hps
    iapply (Entails.of_eq (show (iprop(emp) : sProp 𝕄) = pk m ρ c h (n.val + 1) a (tg n) by
      unfold pk; rw [if_neg (by rw [ha, cnt_succ]; omega)]))
    iempintro
  iexists W; iexact HO

theorem step_add (c : Dev nD) (n : Fin 12) (h s : ℕ) (hs : cnt s (tg n) = (tr n).val + 1) (hns : n.val < s) (k : ℙ) (Q : PUnit → sProp 𝕄) :
    core m ρ K c h s n.val ⊢ iprop((core m ρ K c h s (n.val + 1) -∗ WP c k Q) -∗ WP c (addK n k) Q) := by
  unfold core
  iintro ⟨#HR, Hx, Hp, HO⟩ Hk
  ihave Hx' := (bigSep_move (xs c s n.val) (xs c s (n.val + 1)) n (fun j hj => by
    have hne : j.val ≠ n.val := fun e => hj (Fin.ext e)
    unfold xs
    by_cases h1 : j.val < n.val
    · rw [if_pos h1, if_pos (show j.val < n.val + 1 by omega)]
    · rw [if_neg h1, if_neg (show ¬ j.val < n.val + 1 by omega)])) $$ Hx
  ihave Hp' := (bigSep_move (pk m ρ c h s n.val) (pk m ρ c h s (n.val + 1)) (tg n) (fun g hg => by
    unfold pk Held; rw [cnt_other n g hg])) $$ Hp
  icases Hx' with ⟨Hx, Hxs⟩
  icases Hp' with ⟨-, Hps⟩
  ihave Hx := (Entails.of_eq (show xs c s n.val n = sent (F := F) c n by
    unfold xs; rw [if_neg (by omega), if_pos hns])) $$ Hx
  iapply (wp_add m ρ K c n s hns k Q) $$ [Hx HO]
  · isplitr; · iexact HR
    isplitl [Hx] <;> iassumption
  iintro ⟨Hd, ⟨%f, %hf, Hp⟩, HO⟩
  iapply Hk
  isplitr; · iexact HR
  isplitl [Hxs Hd]
  · iapply Hxs
    iapply (Entails.of_eq (show done (F := F) c n = xs c s (n.val + 1) n by unfold xs; rw [if_pos (by omega)]))
    iexact Hd
  isplitl [Hps Hp]
  · iapply Hps
    iapply (Entails.of_eq (show iprop(∃ f, ⌜Held m ρ c h (n.val + 1) (tg n) f⌝ ∗ packPts c (tg n) f) = pk m ρ c h s (n.val + 1) (tg n) by
      unfold pk; rw [if_pos (by rw [hs, cnt_succ])]))
    iexists f
    isplitr
    · ipureintro; unfold Held; rw [cnt_succ, if_neg (by omega)]; exact hf
    iexact Hp
  iexact HO

end Cert.KernelIdeal.Ring
-- ==== Proof.KernelIdealHeads.lean ====
module

public import proofs.«01_k».proof.Proof.KernelIdealRounds

/-!
# The body, phase after phase

The handshake gives a device its partners' landing places; eight heads are summed, the copies of the next head in flight;
eight times a transfer is awaited and the next one sent; four times a group is awaited, normalised and projected.
-/

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
local notation "ℙ" => ProgT F

variable (m : (ℓ : Loc nD τ sig) → Buf (Elt F) ℓ) (ρ : Dev nD → PrngReg)

variable (K : Dev nD × CK → ℕ)

/-! ## The handshake -/

omit [FloatOps F] in
theorem bigSep_pair {ι : Type} [Fintype ι] (Φ Ψ : ι → sProp 𝕄) :
    iprop(bigSep Finset.univ Φ ∗ bigSep Finset.univ Ψ) ⊢ bigSep Finset.univ fun i => iprop(Φ i ∗ Ψ i) :=
  Entails.of_eq (bigSep_sep Finset.univ Φ Ψ).symm
omit [FloatOps F] in
theorem bigSep_three (Φ : Fin 3 → sProp 𝕄) : bigSep Finset.univ Φ ⊢ iprop(Φ 0 ∗ Φ 1 ∗ Φ 2) := by
  have h : bigSep (Finset.univ : Finset (Fin 3)) Φ = iprop(Φ 0 ∗ Φ 1 ∗ Φ 2) := by
    rw [show (Finset.univ : Finset (Fin 3)) = insert 0 (insert 1 {2}) from by decide, bigSep_insert (by decide),
      bigSep_insert (by decide), bigSep_singleton]
    rfl
  exact Entails.of_eq h

/-- The landing places of the transfers along axis `b`. -/
abbrev lands (c : Dev nD) (b : Fin 3) : sProp 𝕄 :=
  bigSep (Finset.univ.filter fun n : Fin 12 => bitN n = b) fun n => iprop(∃ f, recvPts (F := F) c n f)

theorem step_signal (c x : Dev nD) (b : Fin 3) (hx : x = flip b c) (O O' : CellTallies nD τ sig Unit)
    (hO : O = O' + tallyAt (barCell (flip b c)) () 1) (W : Waits sig Unit) (k : ℙ) (Q : PUnit → sProp 𝕄) :
    iprop(recs m ρ K ∗ owes (c : Thread nD τ) O W ∗ dutyTok ER (barCell (flip b c)) 0 b ∗ lands (F := F) c b)
      ⊢ iprop((owes (c : Thread nD τ) O' W -∗ WP c k Q) -∗ WP c (.op (.semSignal (x, .tc) barS (1#32).toInt) fun _ => k) Q) := by
  subst hx
  iintro ⟨#HR, HO, Ht, Hl⟩ Hk
  iapply (Rounds.wp_signal 𝒱₀ ER (ringRd m ρ) (c : Thread nD τ) none (dst := (flip b c : Thread nD τ)) (κ := K (flip b c, .inl ()))
      (d := b) (by rw [duties_bar]; exact Finset.mem_univ _) ((amount_bar m ρ (flip b c) b).trans (by decide)) () O' hO) $$ [HO Ht Hl]
  · isplitr; · iapply (recs_inv m ρ K (flip b c, .inl ())); iexact HR
    isplitl [HO]; · iexact HO
    isplitl [Ht]; · iexact Ht
    isplitl [Hl]
    · rw [payload_bar]; unfold barPay; rw [flip_flip]; iexact Hl
    iapply (recs_reached m ρ K (flip b c, .inl ())); iexact HR
  iintro HO
  iapply Hk; iexact HO

/-- What a device has before its handshake. -/
def barred (c : Dev nD) : sProp 𝕄 :=
  iprop((∃ W, owes (c : Thread nD τ) (O₀ c) W) ∗ atPos ER (barCell c) 0 ∅ 0 ∗ cred (tallyAt (barCell c) () 3)
    ∗ (dutyTok ER (barCell (flip 0 c)) 0 0 ∗ dutyTok ER (barCell (flip 1 c)) 0 1 ∗ dutyTok ER (barCell (flip 2 c)) 0 2)
    ∗ (bigSep Finset.univ fun n : Fin 12 => iprop(∃ f, recvPts (F := F) c n f)) ∗ bigSep Finset.univ (unsent₀ c)
    ∗ bigSep Finset.univ fun g : Fin 4 => iprop(∃ f, packPts (F := F) c g f))

theorem pk_intro (c : Dev nD) (g : Fin 4) : iprop(∃ f, packPts (F := F) c g f) ⊢ pk m ρ c 0 0 0 g := by
  have e : pk m ρ c 0 0 0 g = iprop(∃ f, ⌜Held m ρ c 0 0 g f⌝ ∗ packPts c g f) := by unfold pk; exact if_pos rfl
  rw [e]
  iintro ⟨%f, H⟩
  iexists f
  isplitr
  · ipureintro; unfold Held; rw [if_pos ((show ∀ g, cnt 0 g = 0 by decide) g)]; exact fun i hi => absurd hi (Nat.not_lt_zero _)
  iexact H

theorem core_intro (c : Dev nD) :
    iprop(recs m ρ K ∗ bigSep Finset.univ (unsent₀ c) ∗ (bigSep Finset.univ fun n : Fin 12 => iprop(∃ f, recvPts (F := F) (partner n c) n f))
      ∗ (bigSep Finset.univ fun g : Fin 4 => iprop(∃ f, packPts (F := F) c g f)) ∗ ∃ W, owes (c : Thread nD τ) (owed c 0) W)
      ⊢ core m ρ K c 0 0 0 := by
  unfold core
  iintro ⟨HR, Hu, Hl, Hp, HO⟩
  isplitl [HR]; · iexact HR
  isplitl [Hu Hl]
  · iapply (Entails.of_eq (show bigSep Finset.univ (fun n => iprop(unsent₀ (F := F) c n ∗ ∃ f, recvPts (F := F) (partner n c) n f))
      = bigSep Finset.univ (xs c 0 0) from bigSep_congr fun n _ => by
        unfold xs; rw [if_neg (Nat.not_lt_zero _), if_neg (Nat.not_lt_zero _)]; rfl))
    iapply (bigSep_pair (unsent₀ (F := F) c) fun n => iprop(∃ f, recvPts (F := F) (partner n c) n f))
    isplitl [Hu] <;> iassumption
  isplitl [Hp]
  · iapply (show (bigSep Finset.univ fun g : Fin 4 => iprop(∃ f, packPts (F := F) c g f)) ⊢ bigSep Finset.univ (pk m ρ c 0 0 0) from
      bigSep_mono fun g _ => pk_intro m ρ c g)
    iexact Hp
  iexact HO

theorem step_barrier (c : Dev nD) (k : ℙ) (Q : PUnit → sProp 𝕄) :
    iprop(recs m ρ K ∗ barred c)
      ⊢ iprop((iprop(core m ρ K c 0 0 0 ∗ semVal (barCell c) 0) -∗ WP c k Q) -∗ WP c (barrierK c k) Q) := by
  unfold barrierK barred
  iintro ⟨#HR, ⟨%W, HO⟩, Hat, Hc, ⟨Ht0, Ht1, Ht2⟩, Hl, Hu, Hp⟩ Hk
  ihave Hl := (Entails.of_eq (by_axis fun n : Fin 12 => iprop(∃ f, recvPts (F := F) c n f))) $$ Hl
  ihave Hl := (bigSep_three (lands (F := F) c)) $$ Hl
  icases Hl with ⟨Hl0, Hl1, Hl2⟩
  iapply (step_signal m ρ K c _ 0 (devB_eq c 0) (O₀ c) (O₂ c) rfl W) $$ [HO Ht0 Hl0]
  · isplitr; · iexact HR
    isplitl [HO]; · iexact HO
    isplitl [Ht0] <;> iassumption
  iintro HO
  iapply (step_signal m ρ K c _ 1 (devB_eq c 1) (O₂ c) (O₁ c) rfl W) $$ [HO Ht1 Hl1]
  · isplitr; · iexact HR
    isplitl [HO]; · iexact HO
    isplitl [Ht1] <;> iassumption
  iintro HO
  iapply (step_signal m ρ K c _ 2 (devB_eq c 2) (O₁ c) (owed c 0) rfl W) $$ [HO Ht2 Hl2]
  · isplitr; · iexact HR
    isplitl [HO]; · iexact HO
    isplitl [Ht2] <;> iassumption
  iintro HO
  iapply (Rounds.wp_wait_rest_token 𝒱₀ ER (ringRd m ρ) (c : Thread nD τ) none (κ := K (c, .inl ()))
      (wpE_semWait_eq 𝒱₀ (c : Thread nD τ) none Set.univ) (Set.mem_univ _) () (O := owed c 0) (W := W) (R := 0) (m := 0) (T := ∅)
      (by rw [expect_bar]; decide)) $$ [Hc HO Hat]
  · isplitr; · iapply (recs_inv m ρ K (c, .inl ())); iexact HR
    isplitl [Hc]; · iexact Hc
    isplitl [HO]; · iexact HO
    isplitr
    · iapply (mayWait_owed c (.reg barS) 1 0 (by omega) (fun u => le_of_eq (lv_bar c u)))
      iapply (recs_lev m ρ K); iexact HR
    iexact Hat
  iintro ⟨HO, Hat, -, Hpay⟩
  ihave Hn := (Entails.of_eq (rest_bar m ρ c)) $$ Hpay
  imod (Rounds.cell_close ER (ringRd m ρ) (Set.mem_univ (K (c, .inl ()))) (fun h => h) (R := 0 + 1) (duties_later m ρ (barCell c))) $$ [Hat] with Hz
  · isplitr; · iapply (recs_inv m ρ K (c, .inl ())); iexact HR
    iexact Hat
  iapply Hk
  isplitr [Hz]
  · iapply (core_intro m ρ K c)
    isplitr; · iexact HR
    isplitl [Hu]; · iexact Hu
    isplitl [Hn]; · iexact Hn
    isplitl [Hp]; · iexact Hp
    iexists _; iexact HO
  iexact Hz

/-! ## The heads -/

/-- Slot `s` of the keys and of the values at rest; head `h` in flight to both; head `h` in both. -/
def kvFree (c : Dev nD) (s : Fin 2) : sProp 𝕄 := iprop(atRest c kM kB (kAt m ρ c) s 0 ∗ atRest c vM vB (vAt m ρ c) s 1)
def kvFly (c : Dev nD) (h : Fin 8) : sProp 𝕄 := iprop(inFlight c kM kB (kAt m ρ c) h 0 ∗ inFlight c vM vB (vAt m ρ c) h 1)

theorem step_fetch (c : Dev nD) (h : Fin 8) (k : ℙ) (Q : PUnit → sProp 𝕄) :
    kvFree m ρ c (par h) ⊢ iprop((kvFly m ρ c h -∗ WP c k Q) -∗ WP c (fetchK h k) Q) := by
  unfold kvFree kvFly fetchK
  iintro ⟨H0, H1⟩ Hk
  iapply (step_copy c kM kB (kAt m ρ c) h 0) $$ H0; iintro H0
  iapply (step_copy c vM vB (vAt m ρ c) h 1) $$ H1; iintro H1
  iapply Hk
  isplitl [H0] <;> iassumption

theorem summed_other (c : Dev nD) (h : Fin 8) (g : Fin 4) (hg : g ≠ grp h) (f : PackC F) :
    Summed m ρ c h.val g f = Summed m ρ c (h.val + 1) g f := by
  refine propext ⟨fun hf i hi => hf i ?_, fun hf i hi => hf i (Nat.lt_succ_of_lt hi)⟩
  refine lt_of_le_of_ne (Nat.lt_succ_iff.mp hi) fun e => hg ?_
  rw [← grp_hd g i]; exact congrArg grp (Fin.ext e)

theorem step_fetched (c : Dev nD) (h : Fin 8) (s : ℕ) (hs : cnt s (grp h) = 0) (k : ℙ) (Q : PUnit → sProp 𝕄) :
    iprop(core m ρ K c h.val s 0 ∗ kvFly m ρ c h ∗ whole c cc0_scratch2 (qAt m ρ c))
      ⊢ iprop((iprop(core m ρ K c (h.val + 1) s 0 ∗ kvFree m ρ c (par h) ∗ whole c cc0_scratch2 (qAt m ρ c)) -∗ WP c k Q)
        -∗ WP c (fetchedK h (sumsK h k)) Q) := by
  unfold core kvFly kvFree fetchedK
  have h00 : cnt 0 (grp h) = 0 := (show ∀ g, cnt 0 g = 0 by decide) _
  iintro ⟨⟨#HR, Hx, Hp, HO⟩, ⟨H0, H1⟩, Hq⟩ Hk
  iapply (step_await c kM kB (kAt m ρ c) h 0 s) $$ [H0 HO]
  · isplitl [H0]; · iexact H0
    isplitl [HO]; · iexact HO
    iapply (recs_lev m ρ K); iexact HR
  iintro ⟨H0, HO⟩
  iapply (step_await c vM vB (vAt m ρ c) h 1 s) $$ [H1 HO]
  · isplitl [H1]; · iexact H1
    isplitl [HO]; · iexact HO
    iapply (recs_lev m ρ K); iexact HR
  iintro ⟨H1, HO⟩
  ihave Hp' := (bigSep_move (pk m ρ c h.val s 0) (pk m ρ c (h.val + 1) s 0) (grp h) (fun g hg => by
    unfold pk Held; simp only [summed_other m ρ c h g hg])) $$ Hp
  icases Hp' with ⟨Hp, Hps⟩
  have hpk : ∀ h', pk m ρ c h' s 0 (grp h) = iprop(∃ f, ⌜Summed m ρ c h' (grp h) f⌝ ∗ packPts c (grp h) f) := fun h' => by
    unfold pk Held; rw [if_pos (by rw [hs, h00])]; simp only [if_pos h00]
  ihave Hp := (Entails.of_eq (hpk h.val)) $$ Hp
  iapply (step_sums m ρ c h) $$ [H0 H1 Hq Hp]
  · isplitl [H0]; · iexact H0
    isplitl [H1]; · iexact H1
    isplitl [Hq] <;> iassumption
  iintro ⟨H0, H1, Hq, Hp⟩
  iapply Hk
  isplitl [Hx Hp Hps HO]
  · isplitr; · iexact HR
    isplitl [Hx]; · iexact Hx
    isplitl [Hp Hps]
    · iapply Hps
      iapply (Entails.of_eq (hpk (h.val + 1)).symm); iexact Hp
    iexact HO
  isplitl [H0 H1]
  · isplitl [H0]; · iapply (filled_rest c kM kB (kAt m ρ c) h 0); iexact H0
    iapply (filled_rest c vM vB (vAt m ρ c) h 1); iexact H1
  iexact Hq

/-- What follows head `h`'s sums: its group's first transfer, after the group's second head. -/
def afterK (d : Dev nD) (h : Fin 8) (k : ℙ) : ℙ := match h with
  | 1 => sendK d 0 k | 3 => sendK d 1 k | 5 => sendK d 2 k | 7 => sendK d 3 k | _ => k
set_option backward.proofsInPublic true in
/-- The first transfer of group `g`. -/
def first (g : Fin 4) : Fin 12 := ⟨g.val, by omega⟩
omit [FloatOps F] in
theorem afterK_zero [FloatOps F] (d : Dev nD) (g : Fin 4) (k : ℙ) : afterK d (hd g 0) k = k := by fin_cases g <;> rfl
omit [FloatOps F] in
theorem afterK_one [FloatOps F] (d : Dev nD) (g : Fin 4) (k : ℙ) : afterK d (hd g 1) k = sendK d (first g) k := by fin_cases g <;> rfl
theorem headK_mid (d : Dev nD) (h : Fin 7) (k : ℙ) :
    headK d h.castSucc k = fetchK h.succ (fetchedK h.castSucc (sumsK h.castSucc (afterK d h.castSucc k))) := by fin_cases h <;> rfl
theorem headK_last (d : Dev nD) (k : ℙ) : headK d 7 k = fetchedK 7 (sumsK 7 (afterK d 7 k)) := rfl

theorem step_after (c : Dev nD) (h : Fin 8) (k : ℙ) (Q : PUnit → sProp 𝕄) :
    core m ρ K c (h.val + 1) (h.val / 2) 0
      ⊢ iprop((core m ρ K c (h.val + 1) ((h.val + 1) / 2) 0 -∗ WP c k Q) -∗ WP c (afterK c h k) Q) := by
  rw [← hd_grp_par h]
  generalize grp h = g
  rcases (show par h = 0 ∨ par h = 1 by revert h; decide) with e | e <;> rw [e]
  · rw [afterK_zero, show ((hd g 0).val + 1) / 2 = (hd g 0).val / 2 by revert g; decide]
    iintro H Hk; iapply Hk; iexact H
  · rw [afterK_one, show ((hd g 1).val + 1) / 2 = (first g).val + 1 by revert g; decide,
      show (hd g 1).val / 2 = (first g).val by revert g; decide]
    exact step_send m ρ K c (first g) _ 0 (by revert g; decide) (Nat.zero_le _) (by revert g; decide) k Q

/-- The slot head `h` does not use. -/
def other (h : Fin 8) : Fin 2 := par (h + 1)

/-- Before head `h`: it is in flight, the other slot is free. -/
def St (c : Dev nD) (h : Fin 8) : sProp 𝕄 :=
  iprop(core m ρ K c h.val (h.val / 2) 0 ∗ kvFly m ρ c h ∗ kvFree m ρ c (other h) ∗ whole c cc0_scratch2 (qAt m ρ c))

theorem step_head (c : Dev nD) (h : Fin 7) (k : ℙ) (Q : PUnit → sProp 𝕄) :
    St m ρ K c h.castSucc ⊢ iprop((St m ρ K c h.succ -∗ WP c k Q) -∗ WP c (headK c h.castSucc k) Q) := by
  rw [headK_mid]
  unfold St
  rw [show other h.castSucc = par h.succ by revert h; decide, show other h.succ = par h.castSucc by revert h; decide]
  iintro ⟨Hc, Hf, Hr, Hq⟩ Hk
  iapply (step_fetch m ρ c h.succ) $$ Hr; iintro Hf'
  iapply (step_fetched m ρ K c h.castSucc (h.castSucc.val / 2) (by revert h; decide)) $$ [Hc Hf Hq]
  · isplitl [Hc]; · iexact Hc
    isplitl [Hf] <;> iassumption
  iintro ⟨Hc, Hr, Hq⟩
  iapply (step_after m ρ K c h.castSucc) $$ Hc; iintro Hc
  iapply Hk
  isplitl [Hc]; · iexact Hc
  isplitl [Hf']; · iexact Hf'
  isplitl [Hr] <;> iassumption

theorem step_head_last (c : Dev nD) (k : ℙ) (Q : PUnit → sProp 𝕄) :
    St m ρ K c 7 ⊢ iprop((iprop(core m ρ K c 8 4 0 ∗ kvFree m ρ c 0 ∗ kvFree m ρ c 1 ∗ whole c cc0_scratch2 (qAt m ρ c)) -∗ WP c k Q)
      -∗ WP c (headK c 7 k) Q) := by
  rw [headK_last]
  unfold St
  rw [show other 7 = 0 by decide, show (1 : Fin 2) = par 7 by decide]
  iintro ⟨Hc, Hf, Hr, Hq⟩ Hk
  iapply (step_fetched m ρ K c 7 ((7 : Fin 8).val / 2) (by decide)) $$ [Hc Hf Hq]
  · isplitl [Hc]; · iexact Hc
    isplitl [Hf] <;> iassumption
  iintro ⟨Hc, Hr', Hq⟩
  iapply (step_after m ρ K c 7) $$ Hc; iintro Hc
  iapply Hk
  isplitl [Hc]; · iexact Hc
  isplitl [Hr]; · iexact Hr
  isplitl [Hr'] <;> iassumption

/-! ## The rounds -/

set_option backward.proofsInPublic true in
/-- The transfer awaited in step `n`, and the one then sent. -/
abbrev t₁ (n : Fin 8) : Fin 12 := ⟨n.val, by omega⟩
set_option backward.proofsInPublic true in
abbrev t₂ (n : Fin 8) : Fin 12 := ⟨n.val + 4, by omega⟩

theorem step_round (c : Dev nD) (n : Fin 8) (k : ℙ) (Q : PUnit → sProp 𝕄) :
    core m ρ K c 8 (n.val + 4) n.val
      ⊢ iprop((core m ρ K c 8 (n.val + 1 + 4) (n.val + 1) -∗ WP c k Q) -∗ WP c (addK (t₁ n) (sendK c (t₂ n) k)) Q) := by
  iintro H Hk
  iapply (step_add m ρ K c (t₁ n) 8 (n.val + 4) (by revert n; decide) (by show n.val < n.val + 4; omega)) $$ H; iintro H
  iapply (step_send m ρ K c (t₂ n) 8 (n.val + 1) (by revert n; decide) (by show n.val + 1 ≤ n.val + 4; omega) (by revert n; decide)) $$ H; iintro H
  iapply Hk
  iapply (Entails.of_eq (show core m ρ K c 8 ((t₂ n).val + 1) (n.val + 1) = core m ρ K c 8 (n.val + 1 + 4) (n.val + 1) by
    rw [show (t₂ n).val + 1 = n.val + 1 + 4 by show n.val + 4 + 1 = _; omega]))
  iexact H

/-! ## The last step of a group -/

set_option backward.proofsInPublic true in
/-- The last transfer of group `g`. -/
abbrev last (g : Fin 4) : Fin 12 := ⟨8 + g.val, by omega⟩

theorem core_pack (c : Dev nD) (g : Fin 4) : core m ρ K c 8 12 (8 + g.val + 1)
    ⊢ iprop((∃ f, ⌜rdAcc g f = sums m ρ 3 c g⌝ ∗ packPts c g f)
      ∗ ((∃ f, ⌜rdAcc g f = sums m ρ 3 c g⌝ ∗ packPts c g f) -∗ core m ρ K c 8 12 (8 + g.val + 1))) := by
  unfold core
  iintro ⟨#HR, Hx, Hp, HO⟩
  ihave Hp' := (bigSep_move (pk m ρ c 8 12 (8 + g.val + 1)) (pk m ρ c 8 12 (8 + g.val + 1)) g (fun _ _ => rfl)) $$ Hp
  icases Hp' with ⟨Hp, Hps⟩
  have h3 : cnt (8 + g.val + 1) g = 3 := by revert g; decide
  have hpk : pk m ρ c 8 12 (8 + g.val + 1) g = iprop(∃ f, ⌜rdAcc g f = sums m ρ 3 c g⌝ ∗ packPts c g f) := by
    unfold pk Held; rw [if_pos (by rw [h3]; revert g; decide), h3]; rfl
  ihave Hp := (Entails.of_eq hpk) $$ Hp
  isplitl [Hp]; · iexact Hp
  iintro Hp
  isplitr; · iexact HR
  isplitl [Hx]; · iexact Hx
  isplitl [Hp Hps]
  · iapply Hps
    iapply (Entails.of_eq hpk.symm); iexact Hp
  iexact HO

theorem wp_mean (c : Dev nD) (g : Fin 4) (i : Fin 2) (f : PackC F) (hf : rdAcc g f = sums m ρ 3 c g) (q : QC F) (k : ℙ) (Q : PUnit → sProp 𝕄) :
    iprop(packPts c g f ∗ whole c cc0_scratch2 q)
      ⊢ iprop((iprop(packPts c g f ∗ whole c cc0_scratch2 (wrA g i q (meanAt m ρ c g i))) -∗ WP c k Q) -∗ WP c (meanK g i k) Q) := by
  have hfin : rdAcc g f = rdAcc g (fin m ρ c g) := by rw [hf]; unfold fin; rw [rdAcc_wrAcc]
  have hO : packM.view.readAt (Elt F) (rO g i).toLoadRect f = rdO g i (fin m ρ c g) := O_of_acc g i _ _ hfin
  have hL : packM.view.readAt (Elt F) (rL g i).toLoadRect f = rdL g i (fin m ρ c g) := L_of_acc g i _ _ hfin
  unfold meanK
  simp only [packPts_eq]
  iintro ⟨Hp, Hq⟩ Hk
  iapply (wp_load 𝒱₀ (c : Thread nD τ) none Set.univ (m := packM) (ld_sub cc0_scratch3 (rO g i) _ (O_sub _ _))) $$ Hp; iintro Hp
  iapply (wp_load 𝒱₀ (c : Thread nD τ) none Set.univ (m := packM) (ld_sub cc0_scratch3 (rL g i) _ (L_sub _ _))) $$ Hp; iintro Hp
  rw [hO, hL]
  iapply (wp_load 𝒱₀ (c : Thread nD τ) none Set.univ (m := qM) (Finset.subset_univ _)) $$ Hq; iintro Hq
  iapply (wp_store 𝒱₀ (c : Thread nD τ) none Set.univ (m := qM) (r := rA g i) (Mk := Finset.univ) (Finset.subset_univ _)) $$ Hq; iintro Hq
  iapply Hk
  isplitl [Hp]; · iexact Hp
  iexact Hq

theorem att_any (c : Dev nD) (g : Fin 4) (q : QC F) : rdG g (wrA g 1 (wrA g 0 q (meanAt m ρ c g 0)) (meanAt m ρ c g 1)) = attAt m ρ c g := by
  have h01 : (0 : Fin 2) ≠ 1 := by decide
  unfold attAt
  refine G_ext g _ _ fun i => ?_
  fin_cases i
  · show rdA g 0 _ = rdA g 0 _
    rw [rdA_wrA_ne g h01, rdA_wrA, rdA_wrA_ne g h01, rdA_wrA]
  · show rdA g 1 _ = rdA g 1 _
    rw [rdA_wrA, rdA_wrA]

theorem step_mean (c : Dev nD) (g : Fin 4) (k : ℙ) (Q : PUnit → sProp 𝕄) :
    iprop(core m ρ K c 8 12 (8 + g.val) ∗ ∃ q, whole c cc0_scratch2 q)
      ⊢ iprop((iprop(core m ρ K c 8 12 (8 + g.val + 1) ∗ ∃ q, ⌜rdG g q = attAt m ρ c g⌝ ∗ whole c cc0_scratch2 q) -∗ WP c k Q)
        -∗ WP c (addK (last g) (meanK g 0 (meanK g 1 k))) Q) := by
  iintro ⟨H, ⟨%q, Hq⟩⟩ Hk
  iapply (step_add m ρ K c (last g) 8 12 (by revert g; decide) (by show 8 + g.val < 12; omega)) $$ H; iintro H
  ihave H' := (core_pack m ρ K c g) $$ H
  icases H' with ⟨⟨%f, %hf, Hp⟩, Hc⟩
  iapply (wp_mean m ρ c g 0 f hf q) $$ [Hp Hq]
  · isplitl [Hp] <;> iassumption
  iintro ⟨Hp, Hq⟩
  iapply (wp_mean m ρ c g 1 f hf (wrA g 0 q (meanAt m ρ c g 0))) $$ [Hp Hq]
  · isplitl [Hp] <;> iassumption
  iintro ⟨Hp, Hq⟩
  iapply Hk
  isplitl [Hp Hc]
  · iapply Hc; iexists f
    isplitr; · (ipureintro; exact hf)
    iexact Hp
  iexists (wrA g 1 (wrA g 0 q (meanAt m ρ c g 0)) (meanAt m ρ c g 1))
  isplitr; · (ipureintro; exact att_any m ρ c g q)
  iexact Hq

theorem step_first (c : Dev nD) (k : ℙ) (Q : PUnit → sProp 𝕄) :
    iprop((∃ q, ⌜rdG 0 q = attAt m ρ c 0⌝ ∗ whole c cc0_scratch2 q) ∗ whole c cc0_stg2_0 (woAt m ρ c) ∗ (∃ f, whole c cc0_stg3_0 f))
      ⊢ iprop((iprop((∃ q, whole c cc0_scratch2 q) ∗ whole c cc0_stg2_0 (woAt m ρ c) ∗ whole c cc0_stg3_0 (outUpTo m ρ c 0)) -∗ WP c k Q)
        -∗ WP c (firstK k) Q) := by
  unfold firstK
  iintro ⟨⟨%q, %hq, Hq⟩, Hw, ⟨%f, Ho⟩⟩ Hk
  iapply (wp_load 𝒱₀ (c : Thread nD τ) none Set.univ (m := qM) (Finset.subset_univ _)) $$ Hq; iintro Hq
  iapply (wp_load 𝒱₀ (c : Thread nD τ) none Set.univ (m := woM) (Finset.subset_univ _)) $$ Hw; iintro Hw
  iapply (wp_load 𝒱₀ (c : Thread nD τ) none Set.univ (m := outM) (Finset.subset_univ _)) $$ Ho; iintro Ho
  iapply (wp_store 𝒱₀ (c : Thread nD τ) none Set.univ (m := outM) (r := rX) (Mk := Finset.univ) (Finset.subset_univ _)) $$ Ho; iintro Ho
  rw [show qM.view.readAt (Elt F) (rG 0).toLoadRect q = attAt m ρ c 0 from hq]
  iapply Hk
  isplitl [Hq]; · iexists q; iexact Hq
  isplitl [Hw]; · iexact Hw
  iapply (Entails.of_eq (congrArg (whole c cc0_stg3_0) (show (outM.access rX).write (Elt F) f
    (k0_pay43 (attAt m ρ c 0) (woRd m ρ c 0)) Finset.univ = outUpTo m ρ c 0 from Memref.write_access_unit_zero_univ (Elt F) cc0_stg3_0 hz3 _ _ _)))
  iexact Ho

theorem step_next (c : Dev nD) (g : Fin 3) (k : ℙ) (Q : PUnit → sProp 𝕄) :
    iprop((∃ q, ⌜rdG g.succ q = attAt m ρ c g.succ⌝ ∗ whole c cc0_scratch2 q) ∗ whole c cc0_stg2_0 (woAt m ρ c) ∗ whole c cc0_stg3_0 (outUpTo m ρ c g.val))
      ⊢ iprop((iprop((∃ q, whole c cc0_scratch2 q) ∗ whole c cc0_stg2_0 (woAt m ρ c) ∗ whole c cc0_stg3_0 (outUpTo m ρ c (g.val + 1))) -∗ WP c k Q)
        -∗ WP c (nextK g.succ k) Q) := by
  unfold nextK
  iintro ⟨⟨%q, %hq, Hq⟩, Hw, Ho⟩ Hk
  iapply (wp_load 𝒱₀ (c : Thread nD τ) none Set.univ (m := qM) (Finset.subset_univ _)) $$ Hq; iintro Hq
  iapply (wp_load 𝒱₀ (c : Thread nD τ) none Set.univ (m := woM) (Finset.subset_univ _)) $$ Hw; iintro Hw
  iapply (wp_load 𝒱₀ (c : Thread nD τ) none Set.univ (m := outM) (Finset.subset_univ _)) $$ Ho; iintro Ho
  iapply (wp_load 𝒱₀ (c : Thread nD τ) none Set.univ (m := outM) (Finset.subset_univ _)) $$ Ho; iintro Ho
  iapply (wp_store 𝒱₀ (c : Thread nD τ) none Set.univ (m := outM) (r := rX) (Mk := Finset.univ) (Finset.subset_univ _)) $$ Ho; iintro Ho
  rw [show qM.view.readAt (Elt F) (rG g.succ).toLoadRect q = attAt m ρ c g.succ from hq,
    show outM.view.readAt (Elt F) rX.toLoadRect (outUpTo m ρ c g.val) = outUpTo m ρ c g.val from Memref.readAt_unit_zero (Elt F) cc0_stg3_0 hz3 _ _]
  iapply Hk
  isplitl [Hq]; · iexists q; iexact Hq
  isplitl [Hw]; · iexact Hw
  have e : (⟨(g.val + 1) % 4, Nat.mod_lt _ (by decide)⟩ : Fin 4) = g.succ := Fin.ext (Nat.mod_eq_of_lt (by omega))
  iapply (Entails.of_eq (congrArg (whole c cc0_stg3_0) (show (outM.access rX).write (Elt F) (outUpTo m ρ c g.val)
    (k0_pay48 (attAt m ρ c g.succ) (woRd m ρ c g.succ) (outUpTo m ρ c g.val)) Finset.univ = outUpTo m ρ c (g.val + 1) from by
      refine (Memref.write_access_unit_zero_univ (Elt F) cc0_stg3_0 hz3 _ _ _).trans ?_
      show _ = k0_pay48 (attAt m ρ c ⟨(g.val + 1) % 4, Nat.mod_lt _ (by decide)⟩) (woRd m ρ c ⟨(g.val + 1) % 4, Nat.mod_lt _ (by decide)⟩) (outUpTo m ρ c g.val)
      rw [e])))
  iexact Ho

end Cert.KernelIdeal.Ring
-- ==== Proof.KernelIdealBody.lean ====
module

public import proofs.«01_k».proof.Proof.KernelIdealHeads

/-!
# The body of one device

The phases in program order, from what the handshake needs to the result and everything given back.
-/

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
local notation "ℙ" => ProgT F

variable (m : (ℓ : Loc nD τ sig) → Buf (Elt F) ℓ) (ρ : Dev nD → PrngReg)

variable (K : Dev nD × CK → ℕ)

theorem head_at (c : Dev nD) (i : Fin 7) (a b : Fin 8) (ha : i.castSucc = a) (hb : i.succ = b) (k : ℙ) (Q : PUnit → sProp 𝕄) :
    St m ρ K c a ⊢ iprop((St m ρ K c b -∗ WP c k Q) -∗ WP c (headK c a k) Q) := by
  subst ha hb; exact step_head m ρ K c i k Q

theorem round_at (c : Dev nD) (n : Fin 8) (i j : Fin 12) (a s a' s' : ℕ) (hi : t₁ n = i) (hj : t₂ n = j) (ha : n.val = a) (hs : n.val + 4 = s)
    (ha' : n.val + 1 = a') (hs' : n.val + 1 + 4 = s') (k : ℙ) (Q : PUnit → sProp 𝕄) :
    core m ρ K c 8 s a ⊢ iprop((core m ρ K c 8 s' a' -∗ WP c k Q) -∗ WP c (addK i (sendK c j k)) Q) := by
  subst hi hj ha hs ha' hs'; exact step_round m ρ K c n k Q

theorem mean_at (c : Dev nD) (g : Fin 4) (i : Fin 12) (a a' : ℕ) (hi : last g = i) (ha : 8 + g.val = a) (ha' : 8 + g.val + 1 = a')
    (k : ℙ) (Q : PUnit → sProp 𝕄) :
    iprop(core m ρ K c 8 12 a ∗ ∃ q, whole c cc0_scratch2 q)
      ⊢ iprop((iprop(core m ρ K c 8 12 a' ∗ ∃ q, ⌜rdG g q = attAt m ρ c g⌝ ∗ whole c cc0_scratch2 q) -∗ WP c k Q)
        -∗ WP c (addK i (meanK g 0 (meanK g 1 k))) Q) := by
  subst hi ha ha'; exact step_mean m ρ K c g k Q

/-- The last step of group `g`, but for the first group. -/
theorem final_at (c : Dev nD) (g : Fin 3) (g' : Fin 4) (i : Fin 12) (a a' : ℕ) (hg : g.succ = g') (hi : last g.succ = i) (ha : 8 + g.succ.val = a)
    (ha' : 8 + g.succ.val + 1 = a') (o o' : ℕ) (ho : g.val = o) (ho' : g.val + 1 = o') (k : ℙ) (Q : PUnit → sProp 𝕄) :
    iprop(core m ρ K c 8 12 a ∗ (∃ q, whole c cc0_scratch2 q) ∗ whole c cc0_stg2_0 (woAt m ρ c) ∗ whole c cc0_stg3_0 (outUpTo m ρ c o))
      ⊢ iprop((iprop(core m ρ K c 8 12 a' ∗ (∃ q, whole c cc0_scratch2 q) ∗ whole c cc0_stg2_0 (woAt m ρ c) ∗ whole c cc0_stg3_0 (outUpTo m ρ c o')) -∗ WP c k Q)
        -∗ WP c (addK i (meanK g' 0 (meanK g' 1 (nextK g' k)))) Q) := by
  subst hg ho ho'
  iintro ⟨Hc, Hq, Hw, Ho⟩ Hk
  iapply (mean_at m ρ K c g.succ i a a' hi ha ha') $$ [Hc Hq]
  · isplitl [Hc] <;> iassumption
  iintro ⟨Hc, Hq⟩
  iapply (step_next m ρ c g) $$ [Hq Hw Ho]
  · isplitl [Hq]; · iexact Hq
    isplitl [Hw] <;> iassumption
  iintro ⟨Hq, Hw, Ho⟩
  iapply Hk
  isplitl [Hc]; · iexact Hc
  isplitl [Hq]; · iexact Hq
  isplitl [Hw] <;> iassumption

/-- The heads. -/
theorem run_heads (c : Dev nD) (k : ℙ) (Q : PUnit → sProp 𝕄) :
    St m ρ K c 0 ⊢ iprop((iprop(core m ρ K c 8 4 0 ∗ kvFree m ρ c 0 ∗ kvFree m ρ c 1 ∗ whole c cc0_scratch2 (qAt m ρ c)) -∗ WP c k Q)
      -∗ WP c (headK c 0 <| headK c 1 <| headK c 2 <| headK c 3 <| headK c 4 <| headK c 5 <| headK c 6 <| headK c 7 k) Q) := by
  iintro H Hk
  iapply (head_at m ρ K c 0 0 1 rfl rfl) $$ H; iintro H
  iapply (head_at m ρ K c 1 1 2 rfl rfl) $$ H; iintro H
  iapply (head_at m ρ K c 2 2 3 rfl rfl) $$ H; iintro H
  iapply (head_at m ρ K c 3 3 4 rfl rfl) $$ H; iintro H
  iapply (head_at m ρ K c 4 4 5 rfl rfl) $$ H; iintro H
  iapply (head_at m ρ K c 5 5 6 rfl rfl) $$ H; iintro H
  iapply (head_at m ρ K c 6 6 7 rfl rfl) $$ H; iintro H
  iapply (step_head_last m ρ K c) $$ H
  iexact Hk

/-- The rounds. -/
theorem run_rounds (c : Dev nD) (k : ℙ) (Q : PUnit → sProp 𝕄) :
    core m ρ K c 8 4 0 ⊢ iprop((core m ρ K c 8 12 8 -∗ WP c k Q)
      -∗ WP c (addK 0 <| sendK c 4 <| addK 1 <| sendK c 5 <| addK 2 <| sendK c 6 <| addK 3 <| sendK c 7 <|
        addK 4 <| sendK c 8 <| addK 5 <| sendK c 9 <| addK 6 <| sendK c 10 <| addK 7 <| sendK c 11 k) Q) := by
  iintro H Hk
  iapply (round_at m ρ K c 0 0 4 0 4 1 5 rfl rfl rfl rfl rfl rfl) $$ H; iintro H
  iapply (round_at m ρ K c 1 1 5 1 5 2 6 rfl rfl rfl rfl rfl rfl) $$ H; iintro H
  iapply (round_at m ρ K c 2 2 6 2 6 3 7 rfl rfl rfl rfl rfl rfl) $$ H; iintro H
  iapply (round_at m ρ K c 3 3 7 3 7 4 8 rfl rfl rfl rfl rfl rfl) $$ H; iintro H
  iapply (round_at m ρ K c 4 4 8 4 8 5 9 rfl rfl rfl rfl rfl rfl) $$ H; iintro H
  iapply (round_at m ρ K c 5 5 9 5 9 6 10 rfl rfl rfl rfl rfl rfl) $$ H; iintro H
  iapply (round_at m ρ K c 6 6 10 6 10 7 11 rfl rfl rfl rfl rfl rfl) $$ H; iintro H
  iapply (round_at m ρ K c 7 7 11 7 11 8 12 rfl rfl rfl rfl rfl rfl) $$ H
  iexact Hk

theorem wp_end (c : Dev nD) (Q : PUnit → sProp 𝕄) : Q ⟨⟩ ⊢ WP c (.ret ⟨⟩ : ℙ) Q := by
  show Q ⟨⟩ ⊢ wp frame (wpE (defs₀ (F := F)) 𝒱₀ (c : Thread nD τ) none) Set.univ (.ret ⟨⟩ : ℙ) Q
  rw [wp_ret]
  iintro H; imodintro; iexact H

/-- The staged inputs. -/
def staged (c : Dev nD) : sProp 𝕄 :=
  iprop(whole c cc0_stg0_0 (xAt m ρ c) ∗ whole c cc0_stg1_0 (wqAt m ρ c) ∗ whole c cc0_stg2_0 (woAt m ρ c))

theorem run_body (c : Dev nD) (Q : PUnit → sProp 𝕄) :
    iprop(recs m ρ K ∗ barred c ∗ kvFree m ρ c 0 ∗ kvFree m ρ c 1 ∗ (∃ f, whole c cc0_scratch2 f) ∗ staged m ρ c ∗ (∃ f, whole c cc0_stg3_0 f))
      ⊢ iprop((iprop(core m ρ K c 8 12 12 ∗ semVal (barCell c) 0 ∗ kvFree m ρ c 0 ∗ kvFree m ρ c 1 ∗ (∃ f, whole c cc0_scratch2 f)
          ∗ staged m ρ c ∗ whole c cc0_stg3_0 (outAt m ρ c)) -∗ Q ⟨⟩)
        -∗ WP c prog Q) := by
  unfold prog staged
  iintro ⟨HR, Hb, H0, H1, Hq, ⟨Hx, Hwq, Hwo⟩, Ho⟩ Hk
  simp only [wp_deviceId]
  iapply (step_barrier m ρ K c) $$ [HR Hb]
  · isplitl [HR] <;> iassumption
  iintro ⟨Hc, Hz⟩
  iapply (step_fetch m ρ c 0) $$ [H0]
  · iexact H0
  iintro Hf
  iapply (step_query m ρ c) $$ [Hx Hwq Hq]
  · isplitl [Hx]; · iexact Hx
    isplitl [Hwq] <;> iassumption
  iintro ⟨Hx, Hwq, Hq⟩
  iapply (run_heads m ρ K c) $$ [Hc Hf H1 Hq]
  · unfold St
    rw [show other 0 = 1 by decide]
    isplitl [Hc]; · iexact Hc
    isplitl [Hf]; · iexact Hf
    isplitl [H1] <;> iassumption
  iintro ⟨Hc, H0, H1, Hq⟩
  iapply (run_rounds m ρ K c) $$ Hc; iintro Hc
  iapply (mean_at m ρ K c 0 8 8 9 rfl rfl rfl) $$ [Hc Hq]
  · isplitl [Hc]; · iexact Hc
    iexists _; iexact Hq
  iintro ⟨Hc, Hq⟩
  iapply (step_first m ρ c) $$ [Hq Hwo Ho]
  · isplitl [Hq]; · iexact Hq
    isplitl [Hwo] <;> iassumption
  iintro H
  iapply (final_at m ρ K c 0 1 9 9 10 rfl rfl rfl rfl 0 1 rfl rfl) $$ [Hc H]
  · isplitl [Hc] <;> iassumption
  iintro H
  iapply (final_at m ρ K c 1 2 10 10 11 rfl rfl rfl rfl 1 2 rfl rfl) $$ H; iintro H
  iapply (final_at m ρ K c 2 3 11 11 12 rfl rfl rfl rfl 2 3 rfl rfl) $$ H; iintro ⟨Hc, Hq, Hwo, Ho⟩
  iapply (wp_end c Q)
  iapply Hk
  isplitl [Hc]; · iexact Hc
  isplitl [Hz]; · iexact Hz
  isplitl [H0]; · iexact H0
  isplitl [H1]; · iexact H1
  isplitl [Hq]; · iexact Hq
  isplitl [Hx Hwq Hwo]
  · isplitl [Hx]; · iexact Hx
    isplitl [Hwq] <;> iassumption
  iexact Ho

end Cert.KernelIdeal.Ring
-- ==== Proof.KernelIdealPre.lean ====
module

public import proofs.«01_k».proof.Proof.KernelIdealBody

/-!
# What a device starts from and ends with

The scratch buffers whole at the boundaries, in parts within; the library's obligation for the body.
-/

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
local notation "ℙ" => ProgT F

variable (m : (ℓ : Loc nD τ sig) → Buf (Elt F) ℓ) (ρ : Dev nD → PrngReg)

open Idealize.ShloMosaic.Pipeline (Dat Cfg Window BodyObligation cellOf)

/-! ## Buffers in parts -/

omit [FloatOps F] in
theorem both {ι : Type} [DecidableEq ι] (S : Finset ι) (Φ Ψ : ι → sProp 𝕄) :
    bigSep S (fun i => iprop(Φ i ∗ Ψ i)) = iprop(bigSep S Φ ∗ bigSep S Ψ) := bigSep_sep S Φ Ψ

omit [FloatOps F] in
theorem parts_open {ι : Type} [Fintype ι] [DecidableEq ι] (ℓ : Loc nD τ sig) (I : ι → Finset (Idx ℓ)) (hu : Finset.univ.biUnion I = Finset.univ)
    (hd : ∀ i j, i ≠ j → Disjoint (I i) (I j)) :
    (iprop(∃ f, ℓ ↦{fullShare} f) : sProp 𝕄) ⊢ bigSep Finset.univ fun i => iprop(∃ f, ℓ ↦[I i]{fullShare} f) := by
  iintro ⟨%f, H⟩
  have e : (ℓ ↦{fullShare} f : sProp 𝕄) = bigSep Finset.univ fun i => ℓ ↦[I i]{fullShare} f := by
    rw [← pointsTo_biUnion Finset.univ I fun i _ j _ h => hd i j h, hu]
  ihave H' := (Entails.of_eq e) $$ H
  iapply (show (bigSep Finset.univ fun i => (ℓ ↦[I i]{fullShare} f : sProp 𝕄)) ⊢ bigSep Finset.univ fun i => iprop(∃ f, ℓ ↦[I i]{fullShare} f) from
    bigSep_mono fun i _ => by
      show (ℓ ↦[I i]{fullShare} f : sProp 𝕄) ⊢ iprop(∃ f, ℓ ↦[I i]{fullShare} f)
      iintro H; iexists f; iexact H) $$ H'

omit [FloatOps F] in
theorem parts_close {ι : Type} [Fintype ι] [DecidableEq ι] (ℓ : Loc nD τ sig) (I : ι → Finset (Idx ℓ)) (hu : Finset.univ.biUnion I = Finset.univ)
    (hd : ∀ i j, i ≠ j → Disjoint (I i) (I j)) (f₀ : Buf (Elt F) ℓ) :
    (bigSep Finset.univ fun i => iprop(∃ f, ℓ ↦[I i]{fullShare} f)) ⊢ (iprop(∃ f, ℓ ↦{fullShare} f) : sProp 𝕄) := by
  haveI : Nonempty (Buf (Elt F) ℓ) := ⟨f₀⟩
  iintro H
  ihave H' := (BI.bigSep_exists_pi Finset.univ (fun i (f : Buf (Elt F) ℓ) => (ℓ ↦[I i]{fullShare} f : sProp 𝕄))) $$ H
  icases H' with ⟨%fs, H⟩
  ihave H' := (pointsTo_biUnion_join Finset.univ I fs f₀ fun i _ j _ h => hd i j h) $$ H
  icases H' with ⟨%g, -, H⟩
  rw [hu]
  iexists g; iexact H

/-- A scratch buffer at some contents. -/
abbrev some' (c : Dev nD) (b : Ref sig .tc) : sProp 𝕄 := iprop(∃ f, whole (F := F) c b f)

theorem pack_open (c : Dev nD) : some' (F := F) c cc0_scratch3 ⊢ bigSep Finset.univ fun g : Fin 4 => iprop(∃ f, packPts (F := F) c g f) :=
  (parts_open ((c : Thread nD τ).loc cc0_scratch3) (fun g : Fin 4 => (rPack g).set) pack_parts pack_disj).trans
    (Entails.of_eq (bigSep_congr fun g _ => by simp only [packPts_eq]))
include m in
theorem pack_close (c : Dev nD) : (bigSep Finset.univ fun g : Fin 4 => iprop(∃ f, packPts (F := F) c g f)) ⊢ some' (F := F) c cc0_scratch3 :=
  (Entails.of_eq (bigSep_congr fun g _ => by simp only [packPts_eq])).trans
    (parts_close ((c : Thread nD τ).loc cc0_scratch3) (fun g : Fin 4 => (rPack g).set) pack_parts pack_disj (m _))
theorem recv_open (c : Dev nD) : some' (F := F) c cc0_scratch4 ⊢ bigSep Finset.univ fun n : Fin 12 => iprop(∃ f, recvPts (F := F) c n f) :=
  (parts_open ((c : Thread nD τ).loc cc0_scratch4) (fun n : Fin 12 => (rRecv (tg n) (tr n)).set) recv_parts recv_disj).trans
    (Entails.of_eq (bigSep_congr fun g _ => by simp only [recvPts_eq]))
include m in
theorem recv_close (c : Dev nD) : (bigSep Finset.univ fun n : Fin 12 => iprop(∃ f, recvPts (F := F) c n f)) ⊢ some' (F := F) c cc0_scratch4 :=
  (Entails.of_eq (bigSep_congr fun g _ => by simp only [recvPts_eq])).trans
    (parts_close ((c : Thread nD τ).loc cc0_scratch4) (fun n : Fin 12 => (rRecv (tg n) (tr n)).set) recv_parts recv_disj (m _))

omit [FloatOps F] in
theorem bigSep_two (Φ : Fin 2 → sProp 𝕄) : bigSep Finset.univ Φ = iprop(Φ 0 ∗ Φ 1) := bigSep_univ_eq_bigSepL [0, 1] (by decide) (by decide) Φ

theorem slot_some (c : Dev nD) (B : Memref sig .tc .vmem S2x4096x128 .f32) (I : Fin 2 → Finset (Idx (B.view.loc (c : Thread nD τ))))
    (hI : ∀ s, (B.view.slice (rSlot s)).set = I s) (s : Fin 2) :
    iprop(∃ f, slotPts (F := F) c B s f) = (iprop(∃ f, B.view.loc (c : Thread nD τ) ↦[I s]{fullShare} f) : sProp 𝕄) := by
  rw [← hI]
  exact congrArg (BIBase.exists) (funext fun f => slotPts_eq c B s f)

/-- A staging buffer of the keys or values. -/
theorem slots_open (c : Dev nD) (b : Ref sig .tc) (B : Memref sig .tc .vmem S2x4096x128 .f32) (I : Fin 2 → Finset (Idx (B.view.loc (c : Thread nD τ))))
    (hI : ∀ s, (B.view.slice (rSlot s)).set = I s) (hu : Finset.univ.biUnion I = Finset.univ)
    (hd : ∀ i j, i ≠ j → Disjoint (I i) (I j)) :
    (iprop(∃ f, B.view.loc (c : Thread nD τ) ↦{fullShare} f) : sProp 𝕄) ⊢ iprop((∃ f, slotPts (F := F) c B 0 f) ∗ ∃ f, slotPts (F := F) c B 1 f) := by
  refine (parts_open (B.view.loc (c : Thread nD τ)) I hu hd).trans (Entails.of_eq ?_)
  rw [bigSep_two, slot_some c B I hI 0, slot_some c B I hI 1]
include m in
theorem slots_close (c : Dev nD) (b : Ref sig .tc) (B : Memref sig .tc .vmem S2x4096x128 .f32) (I : Fin 2 → Finset (Idx (B.view.loc (c : Thread nD τ))))
    (hI : ∀ s, (B.view.slice (rSlot s)).set = I s) (hu : Finset.univ.biUnion I = Finset.univ)
    (hd : ∀ i j, i ≠ j → Disjoint (I i) (I j)) :
    iprop((∃ f, slotPts (F := F) c B 0 f) ∗ ∃ f, slotPts (F := F) c B 1 f) ⊢ (iprop(∃ f, B.view.loc (c : Thread nD τ) ↦{fullShare} f) : sProp 𝕄) := by
  refine Entails.trans (Entails.of_eq ?_) (parts_close (B.view.loc (c : Thread nD τ)) I hu hd (m _))
  rw [bigSep_two, slot_some c B I hI 0, slot_some c B I hI 1]
omit [FloatOps F] in
theorem halves (ℓ : Loc nD τ sig) (f : Buf (Elt F) ℓ) : (ℓ ↦{fullShare} f : sProp 𝕄) ⊣⊢ iprop((ℓ ↦{qs 0} f) ∗ ℓ ↦{qs 1} f) :=
  pointsTo_share (PosShare.mem_left_op_right _)

abbrev kvZero (c : Dev nD) (s j : Fin 2) : sProp 𝕄 := semVal ((c : Thread nD τ), .dma (kvSem s j)) 0
/-- The semaphores of the copies of keys and values. -/
def kvSems (c : Dev nD) : sProp 𝕄 := iprop((kvZero (F := F) c 0 0 ∗ kvZero (F := F) c 0 1) ∗ kvZero (F := F) c 1 0 ∗ kvZero (F := F) c 1 1)
/-- The arrays of keys and values. -/
def kvArrs (c : Dev nD) : sProp 𝕄 := iprop(whole c main_arg2 (kAt m ρ c) ∗ whole c main_arg3 (vAt m ρ c))

theorem kv_open (c : Dev nD) : iprop(some' (F := F) c cc0_scratch0 ∗ some' (F := F) c cc0_scratch1 ∗ kvSems (F := F) c ∗ kvArrs m ρ c)
    ⊢ iprop(kvFree m ρ c 0 ∗ kvFree m ρ c 1) := by
  unfold kvFree atRest kvSems kvArrs
  iintro ⟨Hk, Hv, ⟨⟨H00, H01⟩, H10, H11⟩, HK, HV⟩
  ihave Hk' := (slots_open (F := F) c cc0_scratch0 kB (fun s => (rSlot s).set) (fun s => View.set_slice_whole _ _) slot_parts slot_disj) $$ Hk
  ihave Hv' := (slots_open (F := F) c cc0_scratch1 vB (fun s => (rSlot s).set) (fun s => View.set_slice_whole _ _) slot_parts slot_disj) $$ Hv
  ihave HK' := (halves _ (kAt m ρ c)).1 $$ HK
  ihave HV' := (halves _ (vAt m ρ c)).1 $$ HV
  icases Hk' with ⟨Hk0, Hk1⟩
  icases Hv' with ⟨Hv0, Hv1⟩
  icases HK' with ⟨HK0, HK1⟩
  icases HV' with ⟨HV0, HV1⟩
  isplitl [Hk0 Hv0 HK0 HV0 H00 H01]
  · isplitl [Hk0 HK0 H00]
    · isplitl [Hk0]; · iexact Hk0
      isplitl [HK0] <;> iassumption
    · isplitl [Hv0]; · iexact Hv0
      isplitl [HV0] <;> iassumption
  · isplitl [Hk1 HK1 H10]
    · isplitl [Hk1]; · iexact Hk1
      isplitl [HK1] <;> iassumption
    · isplitl [Hv1]; · iexact Hv1
      isplitl [HV1] <;> iassumption
theorem kv_close (c : Dev nD) : iprop(kvFree m ρ c 0 ∗ kvFree m ρ c 1)
    ⊢ iprop(some' (F := F) c cc0_scratch0 ∗ some' (F := F) c cc0_scratch1 ∗ kvSems (F := F) c ∗ kvArrs m ρ c) := by
  unfold kvFree atRest kvSems kvArrs
  iintro ⟨⟨⟨Hk0, HK0, H00⟩, Hv0, HV0, H01⟩, ⟨Hk1, HK1, H10⟩, Hv1, HV1, H11⟩
  isplitl [Hk0 Hk1]
  · iapply (slots_close m c cc0_scratch0 kB (fun s => (rSlot s).set) (fun s => View.set_slice_whole _ _) slot_parts slot_disj)
    isplitl [Hk0] <;> iassumption
  isplitl [Hv0 Hv1]
  · iapply (slots_close m c cc0_scratch1 vB (fun s => (rSlot s).set) (fun s => View.set_slice_whole _ _) slot_parts slot_disj)
    isplitl [Hv0] <;> iassumption
  isplitl [H00 H01 H10 H11]
  · isplitl [H00 H01]
    · isplitl [H00] <;> iassumption
    · isplitl [H10] <;> iassumption
  isplitl [HK0 HK1]
  · iapply (halves _ (kAt m ρ c)).2
    isplitl [HK0] <;> iassumption
  · iapply (halves _ (vAt m ρ c)).2
    isplitl [HV0] <;> iassumption

/-! ## The boundaries -/

/-- Positions at the device's semaphores, tokens of what it is to pay. -/
def linear (c : Dev nD) : sProp 𝕄 :=
  iprop(atPos ER (barCell c) 0 ∅ 0
    ∗ (dutyTok ER (barCell (flip 0 c)) 0 0 ∗ dutyTok ER (barCell (flip 1 c)) 0 1 ∗ dutyTok ER (barCell (flip 2 c)) 0 2)
    ∗ bigSep Finset.univ fun n : Fin 12 => iprop(atPos ER (sendCell c n) 0 ∅ 0 ∗ atPos ER (recvCell c n) 0 ∅ 0
        ∗ dutyTok ER (sendCell c n) 0 0 ∗ dutyTok ER (recvCell (partner n c) n) 0 0))
/-- Credit for what the device is to wait for and others owe. -/
def credits (c : Dev nD) : sProp 𝕄 := iprop(cred (tallyAt (barCell c) () 3) ∗ bigSep Finset.univ fun n : Fin 12 => cred (tallyAt (recvCell c n) () N))
def start (c : Dev nD) : sProp 𝕄 := iprop(∃ K, recs m ρ K ∗ linear (F := F) c ∗ credits (F := F) c ∗ kvSems (F := F) c ∗ kvArrs m ρ c)
/-- The scratch buffers. -/
def scratch (c : Dev nD) : sProp 𝕄 :=
  iprop(some' (F := F) c cc0_scratch0 ∗ some' (F := F) c cc0_scratch1 ∗ some' (F := F) c cc0_scratch2 ∗ some' (F := F) c cc0_scratch3 ∗ some' (F := F) c cc0_scratch4)
def Φ₀ (c : Dev nD) : sProp 𝕄 := iprop(start m ρ c ∗ scratch (F := F) c)
/-- The transfers' semaphores. -/
def netSems (c : Dev nD) : sProp 𝕄 := bigSep Finset.univ fun n : Fin 12 => iprop(semVal (sendCell c n) 0 ∗ semVal (recvCell c n) 0)
def Φ₁ (c : Dev nD) : sProp 𝕄 := iprop(scratch (F := F) c ∗ semVal (barCell c) 0 ∗ netSems (F := F) c ∗ kvSems (F := F) c ∗ kvArrs m ρ c)

theorem barred_intro (c : Dev nD) :
    iprop((∃ W, owes (c : Thread nD τ) (O₀ c) W) ∗ linear (F := F) c ∗ credits (F := F) c ∗ some' (F := F) c cc0_scratch3 ∗ some' (F := F) c cc0_scratch4)
      ⊢ barred (F := F) c := by
  unfold linear credits barred
  iintro ⟨HO, ⟨Ha, Ht, Hn⟩, ⟨Hb, Hc⟩, Hp, Hr⟩
  isplitl [HO]; · iexact HO
  isplitl [Ha]; · iexact Ha
  isplitl [Hb]; · iexact Hb
  isplitl [Ht]; · iexact Ht
  isplitl [Hr]; · iapply (recv_open (F := F) c); iexact Hr
  isplitl [Hn Hc]
  · iapply ((Entails.of_eq (both Finset.univ _ _).symm).trans (bigSep_mono (Ψ := unsent₀ (F := F) c) fun n _ => by
      show iprop((atPos ER (sendCell c n) 0 ∅ 0 ∗ atPos ER (recvCell c n) 0 ∅ 0
        ∗ dutyTok ER (sendCell c n) 0 0 ∗ dutyTok ER (recvCell (partner n c) n) 0 0) ∗ cred (tallyAt (recvCell c n) () N)) ⊢ unsent₀ (F := F) c n
      unfold unsent₀
      iintro ⟨⟨H1, H2, H3, H4⟩, H5⟩
      isplitl [H1]; · iexact H1
      isplitl [H2]; · iexact H2
      isplitl [H3]; · iexact H3
      isplitl [H4] <;> iassumption))
    isplitl [Hn] <;> iassumption
  iapply (pack_open (F := F) c); iexact Hp

variable (K : Dev nD × CK → ℕ)

theorem xs_end (c : Dev nD) (n : Fin 12) : xs (F := F) c 12 12 n = done (F := F) c n := by unfold xs; exact if_pos n.isLt
theorem pk_end (c : Dev nD) (g : Fin 4) : pk m ρ c 8 12 12 g ⊢ iprop(∃ f, packPts (F := F) c g f) := by
  have e : pk m ρ c 8 12 12 g = iprop(∃ f, ⌜Held m ρ c 8 12 g f⌝ ∗ packPts c g f) := by unfold pk; exact if_pos rfl
  rw [e]
  iintro ⟨%f, -, H⟩
  iexists f; iexact H

/-- After the last round everything is the device's again. -/
theorem core_end (c : Dev nD) : core m ρ K c 8 12 12
    ⊢ iprop(netSems (F := F) c ∗ some' (F := F) c cc0_scratch3 ∗ some' (F := F) c cc0_scratch4 ∗ ∃ W, owes (c : Thread nD τ) 0 W) := by
  unfold core netSems
  rw [owed_end]
  iintro ⟨-, Hx, Hp, HO⟩
  ihave Hx' := (show bigSep Finset.univ (xs (F := F) c 12 12) ⊢ iprop((bigSep Finset.univ fun n : Fin 12 => iprop(semVal (sendCell c n) 0 ∗ semVal (recvCell c n) 0))
      ∗ bigSep Finset.univ fun n : Fin 12 => iprop(∃ f, recvPts (F := F) c n f)) by
    rw [← both]
    refine bigSep_mono fun n _ => ?_
    rw [xs_end]; unfold done
    show iprop(semVal (sendCell c n) 0 ∗ semVal (recvCell c n) 0 ∗ ∃ f, recvPts (F := F) c n f) ⊢ iprop((semVal (sendCell c n) 0 ∗ semVal (recvCell c n) 0) ∗ ∃ f, recvPts (F := F) c n f)
    iintro ⟨H1, H2, H3⟩
    isplitl [H1 H2]
    · isplitl [H1] <;> iassumption
    iexact H3) $$ Hx
  icases Hx' with ⟨Hs, Hr⟩
  isplitl [Hs]; · iexact Hs
  isplitl [Hp]
  · iapply (pack_close m c)
    iapply (show bigSep Finset.univ (pk m ρ c 8 12 12) ⊢ bigSep Finset.univ fun g : Fin 4 => iprop(∃ f, packPts (F := F) c g f) from bigSep_mono fun g _ => pk_end m ρ c g) $$ Hp
  isplitl [Hr]; · iapply (recv_close m c); iexact Hr
  iexact HO

/-- The body from boundary to boundary. -/
theorem run_all (c : Dev nD) (Q : PUnit → sProp 𝕄) :
    iprop(Φ₀ m ρ c ∗ (∃ W, owes (c : Thread nD τ) (O₀ c) W) ∗ staged m ρ c ∗ some' (F := F) c cc0_stg3_0)
      ⊢ iprop((iprop(Φ₁ m ρ c ∗ (∃ W, owes (c : Thread nD τ) 0 W) ∗ staged m ρ c ∗ whole c cc0_stg3_0 (outAt m ρ c)) -∗ Q ⟨⟩) -∗ WP c prog Q) := by
  unfold Φ₀ start Φ₁ scratch
  iintro ⟨⟨⟨%K, #HR, Hl, Hc, Hz, HA⟩, H0, H1, H2, H3, H4⟩, HO, Hs, Ho⟩ Hk
  ihave Hb := (barred_intro (F := F) c) $$ [HO Hl Hc H3 H4]
  · isplitl [HO]; · iexact HO
    isplitl [Hl]; · iexact Hl
    isplitl [Hc]; · iexact Hc
    isplitl [H3] <;> iassumption
  ihave Hf := (kv_open m ρ c) $$ [H0 H1 Hz HA]
  · isplitl [H0]; · iexact H0
    isplitl [H1]; · iexact H1
    isplitl [Hz] <;> iassumption
  icases Hf with ⟨Hf0, Hf1⟩
  iapply (run_body m ρ K c Q) $$ [Hb Hf0 Hf1 H2 Hs Ho]
  · isplitr; · iexact HR
    isplitl [Hb]; · iexact Hb
    isplitl [Hf0]; · iexact Hf0
    isplitl [Hf1]; · iexact Hf1
    isplitl [H2]; · iexact H2
    isplitl [Hs] <;> iassumption
  iintro ⟨Hc, Hz, Hf0, Hf1, H2, Hs, Ho⟩
  ihave He := (core_end m ρ K c) $$ Hc
  icases He with ⟨Hn, H3, H4, HO⟩
  ihave Hf := (kv_close m ρ c) $$ [Hf0 Hf1]
  · isplitl [Hf0] <;> iassumption
  icases Hf with ⟨H0, H1, Hkz, HA⟩
  iapply Hk
  isplitl [H0 H1 H2 H3 H4 Hz Hn Hkz HA]
  · isplitl [H0 H1 H2 H3 H4]
    · isplitl [H0]; · iexact H0
      isplitl [H1]; · iexact H1
      isplitl [H2]; · iexact H2
      isplitl [H3] <;> iassumption
    isplitl [Hz]; · iexact Hz
    isplitl [Hn]; · iexact Hn
    isplitl [Hkz] <;> iassumption
  isplitl [HO]; · iexact HO
  isplitl [Hs] <;> iassumption

/-! ## The library's obligation -/

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xAt m ρ c
    | ⟨1, _⟩ => wqAt m ρ c
    | ⟨2, _⟩ => woAt m ρ c
    | ⟨3, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

abbrev t₀ : Fin cfg0.N := t0_0

omit [FloatOps F] in
theorem bigSep_W (Φ : Fin cfg0.W → sProp 𝕄) : bigSep Finset.univ Φ = iprop(Φ (0 : Fin 4) ∗ Φ (1 : Fin 4) ∗ Φ (2 : Fin 4) ∗ Φ (3 : Fin 4)) := bigSep_W0 Φ
theorem fetch_at (w : Fin 4) (hw : w ≠ 3) : (cfg0.win w).fetch t₀ = true := by
  revert hw; fin_cases w
  · exact fun _ => rfl
  · exact fun _ => rfl
  · exact fun _ => rfl
  · exact fun h => absurd rfl h

omit [FloatOps F] in
theorem owns_buffer (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f, ⌜f = X⌝ ∗ whole c b f) := by
  unfold owns; simp only [Memref.view_whole, View.read_whole, View.set_whole]

/-- A staging buffer at contents `X`. -/
abbrev stg (c : Dev nD) (b : Ref sig .tc) (X : b.ty.Contents (Elt F)) : sProp 𝕄 := iprop(∃ f, ⌜f = X⌝ ∗ whole c b f)

def bodyPre (c : Dev nD) : sProp 𝕄 :=
  iprop(Φ₀ m ρ c ∗ (dats m ρ 0 c).owesAt () t₀.castSucc
    ∗ (∃ d, stg c cc0_stg0_0 ((dats m ρ 0 c).before (0 : Fin 4) t₀ d)) ∗ (∃ d, stg c cc0_stg1_0 ((dats m ρ 0 c).before (1 : Fin 4) t₀ d))
    ∗ (∃ d, stg c cc0_stg2_0 ((dats m ρ 0 c).before (2 : Fin 4) t₀ d)) ∗ (∃ d, stg c cc0_stg3_0 ((dats m ρ 0 c).before (3 : Fin 4) t₀ d)))
def bodyPost (c : Dev nD) : sProp 𝕄 :=
  iprop(Φ₁ m ρ c ∗ (dats m ρ 0 c).owesAt () t₀.succ ∗ stg c cc0_stg0_0 (xAt m ρ c) ∗ stg c cc0_stg1_0 (wqAt m ρ c) ∗ stg c cc0_stg2_0 (woAt m ρ c)
    ∗ stg c cc0_stg3_0 (outAt m ρ c))

theorem sound_body (c : Dev nD) : bodyPre m ρ c ⊢ WP c prog (fun _ => bodyPost m ρ c) := by
  unfold bodyPre bodyPost Dat.owesAt Pipeline.owesWithin
  rw [show (dats m ρ 0 c).owed t₀.castSucc = O₀ c from rfl, show (dats m ρ 0 c).owed t₀.succ = 0 from rfl]
  iintro ⟨HΦ, ⟨%W, -, HO⟩, ⟨%d0, %g0, %h0, Hx⟩, ⟨%d1, %g1, %h1, Hq⟩, ⟨%d2, %g2, %h2, Hw⟩, ⟨%d3, %g3, -, Ho⟩⟩
  have e0 : g0 = xAt m ρ c := by rw [h0]; unfold Dat.before; rw [if_pos (fetch_at 0 (by decide))]; rfl
  have e1 : g1 = wqAt m ρ c := by rw [h1]; unfold Dat.before; rw [if_pos (fetch_at 1 (by decide))]; rfl
  have e2 : g2 = woAt m ρ c := by rw [h2]; unfold Dat.before; rw [if_pos (fetch_at 2 (by decide))]; rfl
  clear h0 h1 h2
  subst e0 e1 e2
  iapply (run_all m ρ c) $$ [HΦ HO Hx Hq Hw Ho]
  · isplitl [HΦ]; · iexact HΦ
    isplitl [HO]; · iexists W; iexact HO
    isplitr [Ho]
    · unfold staged
      isplitl [Hx]; · iexact Hx
      isplitl [Hq] <;> iassumption
    · iexists g3; iexact Ho
  unfold staged
  iintro ⟨HΦ, ⟨%W', HO⟩, ⟨Hx, Hq, Hw⟩, Ho⟩
  isplitl [HΦ]; · iexact HΦ
  isplitl [HO]
  · iexists W'
    isplitr; · ipureintro; exact fun _ _ => Or.inl trivial
    iexact HO
  isplitl [Hx]
  · iexists (xAt m ρ c); isplitr; · (ipureintro; rfl)
    iexact Hx
  isplitl [Hq]
  · iexists (wqAt m ρ c); isplitr; · (ipureintro; rfl)
    iexact Hq
  isplitl [Hw]
  · iexists (woAt m ρ c); isplitr; · (ipureintro; rfl)
    iexact Hw
  iexists (outAt m ρ c); isplitr; · (ipureintro; rfl)
  iexact Ho

set_option maxRecDepth 20000 in
theorem body_obligation (c : Dev nD) : BodyObligation (dats (F := F) m ρ 0 c) (defs₀ (F := F)) 𝒱₀ () Set.univ := fun t => by
  rw [fin_N0 t]
  rw [bigSep_W, bigSep_W]
  simp only [owns_buffer]
  show bodyPre m ρ c ⊢ wp frame (wpE (defs₀ (F := F)) 𝒱₀ c none) Set.univ
    (cc0_body (F := F) xM (Memref.isWhole_whole _) wqM (Memref.isWhole_whole _) woM (Memref.isWhole_whole _)
      kM (Memref.isWhole_whole _) vM (Memref.isWhole_whole _) outM (Memref.isWhole_whole _) kB (Memref.isWhole_whole _)
      vB (Memref.isWhole_whole _) qM (Memref.isWhole_whole _) packM (Memref.isWhole_whole _) recvM (Memref.isWhole_whole _)
      cc0_scratch5 cc0_scratch6 cc0_scratch7) (fun _ => bodyPost m ρ c)
  rw [body_eq]
  exact sound_body m ρ c

end Cert.KernelIdeal.Ring
-- ==== Proof.KernelIdealLaunch.lean ====
module

public import proofs.«01_k».proof.Proof.KernelIdealPre
public import Idealize.ShloMosaic.Lib.Pipeline.CollectiveSegs
public import Idealize.ShloMosaic.Lib.Quiescent

/-!
# The launch

What every device is dealt at the start, and the run of the whole mesh.
-/

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
local notation "ℙ" => ProgT F

variable (m : (ℓ : Loc nD τ sig) → Buf (Elt F) ℓ) (ρ : Dev nD → PrngReg)

open Idealize.ShloMosaic.Pipeline (Dat Cfg Window BodyObligation cellOf)

/-! ## Semaphores and tokens -/

/-- The kernel's own semaphores: of the copies of keys and values, of the blocks leaving, of the blocks arriving. -/
abbrev OK : Type := (Fin 2 × Fin 2) ⊕ (Fin 12 ⊕ Fin 12)
abbrev osem : OK → SemLoc sig
  | .inl sj => .dma (kvSem sj.1 sj.2)
  | .inr (.inl n) => .dma (sendSem (tg n) (tr n))
  | .inr (.inr n) => .dma (recvSem (tg n) (tr n))

theorem ownSemFacts : Pipeline.OwnSemFacts cfg0.spec osem := by decide +kernel
theorem csem_injective : Function.Injective csem := by decide +kernel
theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]
def ringCells : Finset (GSem nD τ sig) := Finset.univ.map ⟨kcell, kcell_injective⟩

/-- The tokens minted: three at each barrier, one at every send and receive semaphore. -/
abbrev TK : Type := Fin 3 ⊕ (Fin 12 ⊕ Fin 12)
abbrev tokOf (ck : Dev nD × TK) : GSem nD τ sig × ℕ × Fin 3 := match ck.2 with
  | .inl b => (kcell (ck.1, .inl ()), 0, b)
  | .inr n => (kcell (ck.1, .inr n), 0, 0)
theorem tokOf_injective : Function.Injective tokOf := by
  rintro ⟨c, k⟩ ⟨c', k'⟩ h
  rcases k with b | n <;> rcases k' with b' | n'
  · have h1 := congrArg Prod.fst (kcell_injective (congrArg Prod.fst h))
    have h2 : b = b' := congrArg (fun x : GSem nD τ sig × ℕ × Fin 3 => x.2.2) h
    rw [show c = c' from h1, h2]
  · exact absurd (congrArg Prod.snd (kcell_injective (congrArg Prod.fst h))) (fun e => by cases e)
  · exact absurd (congrArg Prod.snd (kcell_injective (congrArg Prod.fst h))) (fun e => by cases e)
  · have h0 := kcell_injective (congrArg Prod.fst h)
    have h1 : c = c' := congrArg Prod.fst h0
    have h2 : n = n' := Sum.inr.inj (congrArg Prod.snd h0)
    rw [h1, h2]
def ringToks : Finset (GSem nD τ sig × ℕ × Fin 3) := Finset.univ.map ⟨tokOf, tokOf_injective⟩

def u₀ : UU := (initOf (Pipeline.cells cfgs cellOf_inj) (Pipeline.launchToks cfgs cellOf_inj), (initOf ringCells ringToks, 1))

/-- A family over a device's protocol semaphores, by what they are. -/
theorem over_CK (Φ : CK → sProp 𝕄) : bigSep Finset.univ Φ
    = iprop(Φ (.inl ()) ∗ (bigSep Finset.univ fun n => Φ (.inr (.inl n))) ∗ bigSep Finset.univ fun n => Φ (.inr (.inr n))) := by
  have e1 : bigSep Finset.univ Φ = iprop((bigSep Finset.univ fun u => Φ (.inl u)) ∗ bigSep Finset.univ fun n => Φ (.inr n)) := bigSep_univ_sum Φ
  have e2 : (bigSep Finset.univ fun n => Φ (.inr n)) = iprop((bigSep Finset.univ fun n => Φ (.inr (.inl n))) ∗ bigSep Finset.univ fun n => Φ (.inr (.inr n))) :=
    bigSep_univ_sum fun n => Φ (.inr n)
  have e3 : (bigSep Finset.univ fun u : Unit => Φ (.inl u)) = Φ (.inl ()) := bigSep_singleton
  rw [e1, e2, e3]

/-- The tokens of a device's own semaphores, and those it is to pay with. -/
def toks (c : Dev nD) : sProp 𝕄 :=
  iprop((bigSep Finset.univ fun b : Fin 3 => dutyTok ER (barCell c) 0 b) ∗ (bigSep Finset.univ fun n : Fin 12 => dutyTok ER (sendCell c n) 0 0)
    ∗ bigSep Finset.univ fun n : Fin 12 => dutyTok ER (recvCell c n) 0 0)
def payToks (c : Dev nD) : sProp 𝕄 :=
  iprop((bigSep Finset.univ fun b : Fin 3 => dutyTok ER (barCell (flip b c)) 0 b) ∗ (bigSep Finset.univ fun n : Fin 12 => dutyTok ER (sendCell c n) 0 0)
    ∗ bigSep Finset.univ fun n : Fin 12 => dutyTok ER (recvCell (partner n c) n) 0 0)

/-- A device's share of what is made at the start. -/
def G (c : Dev nD) : sProp 𝕄 :=
  iprop((bigSep Finset.univ fun k : CK => roundState ER (ringRd m ρ) (kcell (c, k)) 0)
    ∗ ((bigSep Finset.univ fun k : CK => atPos ER (kcell (c, k)) 0 ∅ 0) ∗ bigSep Finset.univ fun k : CK => reached ER (kcell (c, k)) 0) ∗ toks (F := F) c)

theorem fund_ring : BI.own (ER (F := F) (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : CK => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks (F := F) c := by
    unfold ringToks; rw [bigSep_map, bigSep_univ_prod]
    refine bigSep_congr fun c _ => ?_
    rw [bigSep_univ_sum, bigSep_univ_sum]
    rfl
  iintro HX
  imod (Rounds.fund ER (ringRd m ρ) ringCells ringToks) $$ HX with ⟨Hst, Hr, Hat, Htok⟩
  imodintro
  ihave Hst' := (Entails.of_eq (hX fun g => roundState ER (ringRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G
  rw [both, both, both]
  isplitl [Hst']; · iexact Hst'
  isplitl [Hat' Hr']
  · isplitl [Hat'] <;> iassumption
  iexact Htok'

/-! ## The semaphores at zero -/

theorem ownSems0_eq (c : Dev nD) : (Pipeline.ownSems0 (Ix := Unit) (Name := ℕ) (U := UU) (Lvl := ℕ) (Val := Elt F) (τ := τ) osem c : sProp 𝕄)
    = iprop(kvSems (F := F) c ∗ netSems (F := F) c) := by
  unfold Pipeline.ownSems0 kvSems netSems
  have e1 : (bigSep Finset.univ fun k : OK => (semVal ((c.tc : Thread nD τ), osem k) 0 : sProp 𝕄))
      = iprop((bigSep Finset.univ fun k : Fin 2 × Fin 2 => kvZero (F := F) c k.1 k.2)
        ∗ bigSep Finset.univ fun k : Fin 12 ⊕ Fin 12 => (semVal ((c.tc : Thread nD τ), osem (.inr k)) 0 : sProp 𝕄)) := bigSep_univ_sum _
  have e2 : (bigSep Finset.univ fun k : Fin 12 ⊕ Fin 12 => (semVal ((c.tc : Thread nD τ), osem (.inr k)) 0 : sProp 𝕄))
      = iprop((bigSep Finset.univ fun n : Fin 12 => semVal (sendCell c n) 0) ∗ bigSep Finset.univ fun n : Fin 12 => semVal (recvCell c n) 0) := bigSep_univ_sum _
  rw [e1, e2, both, bigSep_univ_prod, bigSep_two, bigSep_two, bigSep_two]
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

theorem sems0_eq (c : Dev nD) : iprop(netSems (F := F) c ∗ semVal (barCell c) 0) ⊢ (bigSep Finset.univ fun k : CK => semVal (kcell (c, k)) 0 : sProp 𝕄) := by
  unfold netSems
  rw [over_CK, both]
  iintro ⟨⟨HS, HV⟩, HB⟩
  isplitl [HB]; · iexact HB
  isplitl [HS] <;> iassumption

/-! ## The protocol's invariants, for all devices at once -/

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : CK => iprop(∃ κ : ℕ, cellInv ER (ringRd m ρ) κ (kcell (c, k))))
          ∗ (bigSep Finset.univ fun k : CK => reached ER (kcell (c, k)) 0)
          ∗ (bigSep Finset.univ fun k : CK => atPos ER (kcell (c, k)) 0 ∅ 0) ∗ toks (F := F) c ∗ kvSems (F := F) c) := by
  rw [ownSems0_eq, unscopedSems0_eq]
  unfold G
  iintro ⟨⟨Hkv, Hn⟩, Hb, Hst, ⟨Hat, Hre⟩, Htok⟩
  ihave Hv := (sems0_eq (F := F) c) $$ [Hn Hb]
  · isplitl [Hn] <;> iassumption
  imod (show iprop((bigSep Finset.univ fun k : CK => semVal (kcell (c, k)) 0) ∗ bigSep Finset.univ fun k : CK => roundState ER (ringRd m ρ) (kcell (c, k)) 0)
      ⊢ (|={Set.univ}=> bigSep Finset.univ fun k : CK => iprop(∃ κ : ℕ, cellInv ER (ringRd m ρ) κ (kcell (c, k))) : sProp 𝕄) from by
        rw [← both]
        exact (bigSep_mono fun k _ => (Rounds.body_intro ER (ringRd m ρ) (kcell (c, k))).trans inv_alloc).trans (bigSep_fupd _ _)) $$ [Hv Hst] with Hinv
  · isplitl [Hv] <;> iassumption
  imodintro
  isplitl [Hinv]; · iexact Hinv
  isplitl [Hre]; · iexact Hre
  isplitl [Hat]; · iexact Hat
  isplitl [Htok] <;> iassumption

/-- A family over devices and a second index, moved along a permutation of the devices for each index. -/
theorem around {ι : Type} [Fintype ι] [DecidableEq ι] (e : ι → Dev nD ≃ Dev nD) (Φ : Dev nD → ι → sProp 𝕄) :
    (bigSep Finset.univ fun c => bigSep Finset.univ fun i => Φ c i) = bigSep Finset.univ fun c => bigSep Finset.univ fun i => Φ (e i c) i := by
  rw [bigSep_univ_comm, bigSep_univ_comm (fun c i => Φ (e i c) i)]
  exact bigSep_congr fun i _ => bigSep_univ_equiv (e i) fun c => Φ c i

theorem toks_around : (bigSep Finset.univ fun c : Dev nD => toks (F := F) c) = bigSep Finset.univ fun c : Dev nD => payToks (F := F) c := by
  unfold toks payToks
  rw [both, both, both, both, around flipEquiv (fun c b => (dutyTok ER (barCell c) 0 b : sProp 𝕄)),
    around (fun n => flipEquiv (bitN n)) (fun c n => (dutyTok ER (recvCell c n) 0 0 : sProp 𝕄))]
  rfl

/-- The invariants' names and that every semaphore's first round has begun. -/
def records (K : Dev nD × CK → ℕ) : sProp 𝕄 :=
  iprop((bigSep Finset.univ fun ck : Dev nD × CK => cellInv ER (ringRd m ρ) (K ck) (kcell ck))
    ∗ bigSep Finset.univ fun ck : Dev nD × CK => reached (ER (F := F)) (kcell ck) 0)
instance records_persistent (K) : BI.Persistent (records m ρ K) := by unfold records; infer_instance

def G' (c : Dev nD) : sProp 𝕄 := iprop(∃ K, records m ρ K ∗ linear (F := F) c ∗ kvSems (F := F) c)

theorem bigSep_fin3 (Φ : Fin 3 → sProp 𝕄) : bigSep Finset.univ Φ = iprop(Φ 0 ∗ Φ 1 ∗ Φ 2) := bigSep_univ_eq_bigSepL [0, 1, 2] (by decide) (by decide) Φ

theorem linear_intro (c : Dev nD) : iprop((bigSep Finset.univ fun k : CK => atPos ER (kcell (c, k)) 0 ∅ 0) ∗ payToks (F := F) c) ⊢ linear (F := F) c := by
  unfold payToks linear
  rw [over_CK, both, both, both, bigSep_fin3]
  iintro ⟨⟨H1, H2, H3⟩, H4, H5, H6⟩
  isplitl [H1]; · iexact H1
  isplitl [H4]; · iexact H4
  isplitl [H2]; · iexact H2
  isplitl [H3]; · iexact H3
  isplitl [H5] <;> iassumption

theorem with_records {ι : Type} [DecidableEq ι] {S : Finset ι} {R : sProp 𝕄} [BI.Persistent R] {Φ Ψ : ι → sProp 𝕄}
    (h : ∀ i, iprop(R ∗ Φ i) ⊢ Ψ i) : iprop(R ∗ bigSep S Φ) ⊢ bigSep S Ψ :=
  (sep_mono_left (BI.bigSep_of_persistent S R)).trans ((Entails.of_eq (both S (fun _ => R) Φ).symm).trans (bigSep_mono fun i _ => h i))

theorem regroup :
    (bigSep Finset.univ fun c : Dev nD => iprop((bigSep Finset.univ fun k : CK => iprop(∃ κ : ℕ, cellInv ER (ringRd m ρ) κ (kcell (c, k))))
          ∗ (bigSep Finset.univ fun k : CK => reached ER (kcell (c, k)) 0)
          ∗ (bigSep Finset.univ fun k : CK => atPos ER (kcell (c, k)) 0 ∅ 0) ∗ toks (F := F) c ∗ kvSems (F := F) c) : sProp 𝕄)
      ⊢ bigSep Finset.univ (G' m ρ) := by
  rw [both, both, both, both, toks_around, ← bigSep_univ_prod (fun ck : Dev nD × CK => iprop(∃ κ : ℕ, cellInv ER (ringRd m ρ) κ (kcell ck))),
    ← bigSep_univ_prod (fun ck : Dev nD × CK => (reached ER (kcell ck) 0 : sProp 𝕄))]
  iintro ⟨HI, #HR, Hat, Htok, Hkv⟩
  ihave HK := (BI.bigSep_exists_pi Finset.univ (fun (ck : Dev nD × CK) (κ : ℕ) => (cellInv ER (ringRd m ρ) κ (kcell ck) : sProp 𝕄))) $$ HI
  icases HK with ⟨%K, #HI⟩
  iapply (with_records (R := records m ρ K) (S := Finset.univ) (Ψ := G' m ρ)
    (Φ := fun c => iprop(((bigSep Finset.univ fun k : CK => atPos ER (kcell (c, k)) 0 ∅ 0) ∗ payToks (F := F) c) ∗ kvSems (F := F) c)) fun c => by
      unfold G'
      iintro ⟨HR, Hl, Hk⟩
      iexists K
      isplitl [HR]; · iexact HR
      isplitl [Hl]; · iapply (linear_intro (F := F) c); iexact Hl
      iexact Hk)
  isplitr
  · unfold records; isplitl; · iexact HI
    iexact HR
  rw [both, both]
  isplitr [Hkv]
  · isplitl [Hat] <;> iassumption
  iexact Hkv

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credit at the start -/

theorem bar_at (b : Fin 3) (d c : Dev nD) : tallyAt (sig := sig) (barCell (flip b d)) () 1 (barCell c) () = if d = flip b c then 1 else 0 := by
  rw [tallyAt_apply]
  by_cases h : d = flip b c
  · subst h; rw [flip_flip, if_pos ⟨rfl, rfl⟩, if_pos rfl]
  · rw [if_neg h]
    refine if_neg fun h' => h ?_
    have e : c = flip b d := congrArg (fun g : GSem nD τ sig => g.1.1) h'.1
    rw [e, flip_flip]
theorem bar_recv (c d : Dev nD) (n : Fin 12) : barCell c ≠ recvCell d n := fun h => by
  have := congrArg Prod.snd (kcell_injective (a₁ := (c, .inl ())) (a₂ := (d, .inr (.inr n))) h)
  cases this
theorem bar_tally (d c : Dev nD) (b : Fin 3) (n : Fin 12) : tallyAt (sig := sig) (barCell d) () 1 (recvCell c n) () = 0 := by
  rw [tallyAt_apply]; exact if_neg fun h => bar_recv d c n h.1.symm
theorem owed_bar (d c : Dev nD) : O₀ d (barCell c) () = (if d = flip 2 c then 1 else 0) + (if d = flip 1 c then 1 else 0) + (if d = flip 0 c then 1 else 0) := by
  have h0 : owed d 0 (barCell c) () = 0 := by
    by_contra h
    obtain ⟨k, -, hk⟩ := owed_pos (Nat.pos_of_ne_zero h)
    exact bar_recv _ _ _ hk
  unfold O₀ O₂ O₁
  rw [Pi.add_apply, Finsupp.add_apply, Pi.add_apply, Finsupp.add_apply, Pi.add_apply, Finsupp.add_apply, h0, bar_at, bar_at, bar_at, Nat.zero_add]
theorem owe1_at (d c : Dev nD) (k n : Fin 12) : owe1 d k (recvCell c n) () = if k = n then (if d = partner n c then N else 0) else 0 := by
  unfold owe1
  rw [tallyAt_apply]
  by_cases h : k = n
  · subst h
    rw [if_pos rfl]
    by_cases h' : d = partner k c
    · subst h'; rw [partner_partner, if_pos ⟨rfl, rfl⟩, if_pos rfl]
    · rw [if_neg h']
      refine if_neg fun e => h' ?_
      have e' : c = partner k d := congrArg (fun g : GSem nD τ sig => g.1.1) e.1
      rw [e', partner_partner]
  · rw [if_neg h]
    refine if_neg fun e => h ?_
    have e' := congrArg Prod.snd (kcell_injective (a₁ := (c, .inr (.inr n))) (a₂ := (partner k d, .inr (.inr k))) e.1)
    exact (Sum.inr.inj (Sum.inr.inj e')).symm
theorem owed_recv (d c : Dev nD) (n : Fin 12) : O₀ d (recvCell c n) () = if d = partner n c then N else 0 := by
  have h0 : owed d 0 (recvCell c n) () = if d = partner n c then N else 0 := by
    unfold owed
    rw [Finset.sum_apply, Finsupp.finset_sum_apply, Finset.sum_congr rfl fun k _ => owe1_at d c k n, Finset.sum_ite_eq' _ n fun _ => if d = partner n c then N else 0]
    exact if_pos (Finset.mem_filter.mpr ⟨Finset.mem_univ n, Nat.zero_le n.val⟩)
  unfold O₀ O₂ O₁
  rw [Pi.add_apply, Finsupp.add_apply, Pi.add_apply, Finsupp.add_apply, Pi.add_apply, Finsupp.add_apply, h0, bar_tally _ _ 0, bar_tally _ _ 0, bar_tally _ _ 0]
  rfl

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    Finset.sum_ite_eq' Finset.univ (flip 2 c) fun _ => 1, Finset.sum_ite_eq' Finset.univ (flip 1 c) fun _ => 1, Finset.sum_ite_eq' Finset.univ (flip 0 c) fun _ => 1,
    if_pos (Finset.mem_univ _), if_pos (Finset.mem_univ _), if_pos (Finset.mem_univ _)]
theorem launch_recv (c : Dev nD) (n : Fin 12) :
    tallyOn (recvCell c n) (launchCredit (Pipeline.owing O₀) 0 (recvCell c n)) = (tallyAt (recvCell c n) () N : CellTallies nD τ sig Unit) := by
  unfold tallyAt; refine congrArg _ (Finsupp.ext fun u => ?_); cases u
  rw [Pipeline.launchCredit_owing, Finsupp.single_eq_same, Finset.sum_congr rfl fun d _ => owed_recv d c n, Finset.sum_ite_eq' Finset.univ (partner n c) fun _ => N,
    if_pos (Finset.mem_univ _)]

/-- The semaphore, alone or with its device, of the block that arrives in round `n`. -/
def recvAt (n : Fin 12) : SemLoc sig := csem (.inr (.inr n))
theorem recvAt_injective : Function.Injective recvAt := fun _ _ h => Sum.inr.inj (Sum.inr.inj (csem_injective h))
theorem recvAt_ne (n : Fin 12) : recvAt n ≠ SemLoc.reg barS := fun h => by
  have e := csem_injective (a₁ := .inr (.inr n)) (a₂ := .inl ()) h
  cases e
theorem pick {Φ : SemLoc sig → sProp 𝕄} : bigSep (Finset.univ.erase (SemLoc.reg barS)) Φ ⊢ bigSep Finset.univ fun n : Fin 12 => Φ (recvAt n) := by
  have h : (Finset.univ : Finset (Fin 12)).image recvAt ⊆ Finset.univ.erase (SemLoc.reg barS) := fun x hx => by
    obtain ⟨n, -, rfl⟩ := Finset.mem_image.mp hx
    exact Finset.mem_erase.mpr ⟨recvAt_ne n, Finset.mem_univ _⟩
  have e : bigSep ((Finset.univ : Finset (Fin 12)).image recvAt) Φ = bigSep Finset.univ fun n : Fin 12 => Φ (recvAt n) :=
    bigSep_image_of_injOn recvAt_injective.injOn Φ
  rw [← e]
  exact bigSep_subset h
theorem creds (c : Dev nD) : (Pipeline.launchCred O₀ c : sProp 𝕄) ⊢ credits (F := F) c := by
  unfold Pipeline.launchCred credits
  rw [bigSep_univ_at _ (SemLoc.reg barS)]
  refine BI.sep_mono (Entails.of_eq (congrArg cred (launch_bar c))) (pick.trans (bigSep_mono fun n _ => ?_))
  rw [show cred (tallyAt (recvCell c n) () N) = (cred (tallyOn (c.tc, recvAt n) (launchCredit (Pipeline.owing O₀) 0 (c.tc, recvAt n))) : sProp 𝕄) from
    congrArg cred (launch_recv c n).symm]
  exact BI.Entails.refl _

/-! ## Entry and exit -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  rw [Pipeline.unscopedRestP_none, unscopedRest0_eq]
  unfold G' start recs records kvArrs
  iintro ⟨⟨H2, H3⟩, Hlev, Hcr, -, ⟨%K, ⟨HI, HR⟩, Hl, Hk⟩⟩
  ihave Hc := (creds (F := F) c) $$ Hcr
  imodintro
  isplitl
  · iexists K
    isplitl [HI HR Hlev]
    · isplitl [HI]; · iexact HI
      isplitl [HR] <;> iassumption
    isplitl [Hl]; · iexact Hl
    isplitl [Hc]; · iexact Hc
    isplitl [Hk]; · iexact Hk
    isplitl [H2]; · iexact H2
    iexact H3
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs]; · iexact Hs
  iexact Hr

/-- What is left of a device to read at the end. -/
def leftOver (c : Dev nD) : sProp 𝕄 := iprop(unscopedSems0 c ∗ kvArrs m ρ c)

theorem phi1_exit (c : Dev nD) :
    (dats m ρ 0 c).Φ (Fin.last cfg0.N) ⊢ iprop(leftOver m ρ c ∗ Pipeline.ownSems0 osem c ∗ Pipeline.scopedRest cfg0.spec c) := by
  rw [show (dats m ρ 0 c).Φ (Fin.last cfg0.N) = Φ₁ m ρ c from rfl, scopedRest0_eq, ownSems0_eq]
  unfold Φ₁ leftOver scratch
  rw [unscopedSems0_eq]
  iintro ⟨Hr, HB, Hn, Hk, HA⟩
  isplitl [HB HA]
  · isplitl [HB] <;> iassumption
  isplitl [Hn Hk]
  · isplitl [Hk] <;> iassumption
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

theorem share_eq (c : Dev nD) (w : Fin cfg0.W) : (dats m ρ 0 c).share w = fullShare := by unfold Dat.share; split <;> rfl

/-! ## The run -/

def finalA (c : Dev nD) (w : Fin cfg0.W) : Buf (Elt F) ((cfg0.win w).arr.view.loc (c : Thread nD τ)) := (dats m ρ 0 c).arrAt w cfg0.N

/-- What a final state holds: the windows' arrays, the keys and values as they were. -/
def Final (r : PUnit × MemSt nD τ sig (Elt F)) : Prop :=
  ∀ c : Dev nD, (∀ w : Fin cfg0.W, r.2.mem ((cfg0.win w).arr.view.loc (c : Thread nD τ)) = finalA m ρ c w)
    ∧ r.2.mem ((c : Thread nD τ).loc main_arg2) = m ((c : Thread nD τ).loc main_arg2) ∧ r.2.mem ((c : Thread nD τ).loc main_arg3) = m ((c : Thread nD τ).loc main_arg3)

theorem read_whole (c : Dev nD) (b : Ref sig .tc) (f : Buf (Elt F) ((c : Thread nD τ).loc b)) (s' : Phys nD τ sig (Elt F)) :
    iprop(whole c b f ∗ SI s') ⊢ (iprop(⌜s'.mem.mem ((c : Thread nD τ).loc b) = f⌝ ∗ SI s') : sProp 𝕄) := by
  have h := pointsTo_read_all (Ix := Unit) (Name := ℕ) (U := UU) (Lvl := ℕ) (Val := Elt F) ({()} : Finset Unit) (fun _ => (c : Thread nD τ).loc b) (fun _ => f) s'
  rw [bigSep_singleton] at h
  exact h.trans (sep_mono_left (BI.pure_mono fun h => h () (Finset.mem_singleton_self _)))
theorem read_arrs (c : Dev nD) (s' : Phys nD τ sig (Elt F)) : iprop(kvArrs m ρ c ∗ SI s')
    ⊢ (iprop(⌜s'.mem.mem ((c : Thread nD τ).loc main_arg2) = m ((c : Thread nD τ).loc main_arg2) ∧ s'.mem.mem ((c : Thread nD τ).loc main_arg3) = m ((c : Thread nD τ).loc main_arg3)⌝ ∗ SI s') : sProp 𝕄) := by
  unfold kvArrs
  iintro ⟨⟨H2, H3⟩, HSI⟩
  ihave H := (read_whole (F := F) c main_arg2 (kAt m ρ c) s') $$ [H2 HSI]
  · isplitl [H2] <;> iassumption
  icases H with ⟨%h2, HSI⟩
  ihave H := (read_whole (F := F) c main_arg3 (vAt m ρ c) s') $$ [H3 HSI]
  · isplitl [H3] <;> iassumption
  icases H with ⟨%h3, HSI⟩
  isplitr
  · ipureintro; exact ⟨h2, h3⟩
  iexact HSI

set_option maxRecDepth 8000 in
/-- From any memory with zero counters every weakly fair run of the mesh ends; the windows' arrays then hold what the proof
    data say, keys and values are as they were, every counter is zero. -/
theorem run_main : θ_run defs (onTc (τ := τ) (main (F := F))) (s₀ m ρ) (fun r => Final m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      ihave H := (own_pair_emb _ _ _) $$ HX
      icases H with ⟨HX, -⟩
      imod (fund_ring m ρ) $$ [HX] with HG
      · iexact HX
      imodintro
      isplitl [HP] <;> iassumption)
    (hglob := glob m ρ)
    (hA := fun _ _ => rfl) (hpf := fun _ k => k.elim0)
    (X := start m ρ) (Y := leftOver m ρ) (Z := fun _ => iprop(emp))
    (hX := start_intro m ρ) (hin := phi0_intro m ρ) (hout := phi1_exit m ρ)
    (QY := fun c s => (s.mem ((c : Thread nD τ).loc main_arg2) = m ((c : Thread nD τ).loc main_arg2) ∧ s.mem ((c : Thread nD τ).loc main_arg3) = m ((c : Thread nD τ).loc main_arg3))
      ∧ ∀ sm : SemLoc sig, sm.isScoped .tc = false → s.sem ((c.tc : Thread nD τ), sm) = 0)
    (hY := fun c s' => by
      unfold leftOver
      iintro ⟨⟨Hu, HA⟩, -, HSI⟩
      ihave H := (read_arrs m ρ c s') $$ [HA HSI]
      · isplitl [HA] <;> iassumption
      icases H with ⟨%h, HSI⟩
      imod (Pipeline.unscopedSems0_read (X := unscopedSems0 c) (c := c) fupd_intro s') $$ [Hu HSI] with ⟨%h', HSI⟩
      · isplitl [Hu] <;> iassumption
      imodintro
      isplitr
      · ipureintro; exact ⟨h, h'⟩
      iexact HSI)
    (hQ := fun _ h hs => ⟨fun c => ⟨(h c).1, (h c).2.2.1⟩, sem_eq_zero hs fun c => (h c).2.2.2⟩)

/-! ## The arrays at the end -/

theorem finalA_x (c : Dev nD) : finalA m ρ c (0 : Fin 4) = m ((c : Thread nD τ).loc main_arg0) := (dats (F := F) m ρ 0 c).arrAt_in (0 : Fin 4) rfl _
theorem finalA_wq (c : Dev nD) : finalA m ρ c (1 : Fin 4) = m ((c : Thread nD τ).loc main_arg1) := (dats (F := F) m ρ 0 c).arrAt_in (1 : Fin 4) rfl _
theorem finalA_wo (c : Dev nD) : finalA m ρ c (2 : Fin 4) = m ((c : Thread nD τ).loc main_arg4) := (dats (F := F) m ρ 0 c).arrAt_in (2 : Fin 4) rfl _

theorem read_block (c : Dev nD) : (win0_3.blk (0 : Fin 1)).view.read (Elt F) (finalA m ρ c (3 : Fin 4)) = outAt m ρ c := by
  unfold finalA
  rw [show cfg0.N = ((0 : Fin 1) : Fin cfg0.N).val + 1 from rfl, (dats m ρ 0 c).arrAt_succ (3 : Fin 4) (0 : Fin 1)]
  rw [show (cfg0.win (3 : Fin 4)).flush (0 : Fin 1) = true from by decide, if_pos rfl]
  exact View.read_write_univ _ _
theorem finalA_out (c : Dev nD) : finalA m ρ c (3 : Fin 4) = outAt m ρ c := by
  have hz : (fun a => (win0_3.index (0 : Fin 1)) a * main_v1.ty.shape.size a) = fun _ => 0 := funext fun a => by fin_cases a <;> rfl
  have ho := read_block m ρ c
  exact (Memref.read_access_unit_zero (Elt F) main_v1 hz (fun a => by fin_cases a <;> decide) _).symm.trans ho

/-- What is staged is the array. -/
theorem xAt_eq (c : Dev nD) : xAt m ρ c = m ((c : Thread nD τ).loc main_arg0) :=
  Memref.read_access_unit_zero (Elt F) main_arg0 (show (fun a => (win0_0.index (0 : Fin 1)) a * main_arg0.ty.shape.size a) = fun _ => 0 from
    funext fun a => by fin_cases a <;> rfl) (fun a => by fin_cases a <;> decide) _
theorem wqAt_eq (c : Dev nD) : wqAt m ρ c = m ((c : Thread nD τ).loc main_arg1) :=
  Memref.read_access_unit_zero (Elt F) main_arg1 (show (fun a => (win0_1.index (0 : Fin 1)) a * main_arg1.ty.shape.size a) = fun _ => 0 from
    funext fun a => by fin_cases a <;> rfl) (fun a => by fin_cases a <;> decide) _
theorem woAt_eq (c : Dev nD) : woAt m ρ c = m ((c : Thread nD τ).loc main_arg4) :=
  Memref.read_access_unit_zero (Elt F) main_arg4 (show (fun a => (win0_2.index (0 : Fin 1)) a * main_arg4.ty.shape.size a) = fun _ => 0 from
    funext fun a => by fin_cases a <;> rfl) (fun a => by fin_cases a <;> decide) _

/-- The run, with the arrays at the end spelt out. -/
theorem run_arrays (m : (ℓ : Loc nD τ sig) → Buf (Elt F) ℓ) (ρ : Dev nD → PrngReg) :
    θ_run (defs (F := F)) (onTc (τ := τ) (main (F := F))) ⟨m, fun _ => 0, ρ⟩ (fun r =>
      (∀ c : Dev nD, r.2.mem ((c.tc : Thread nD τ).loc main_v1) = outAt m ρ c
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4))
      ∧ r.2.sem = fun _ => 0) := by
  refine (θ_run _ _ _).mono ?_ (run_main (F := F) m ρ)
  rintro r ⟨hr, hsem⟩
  exact ⟨fun c => ⟨((hr c).1 (3 : Fin 4)).trans (finalA_out m ρ c), ((hr c).1 (0 : Fin 4)).trans (finalA_x m ρ c), ((hr c).1 (1 : Fin 4)).trans (finalA_wq m ρ c),
    (hr c).2.1, (hr c).2.2, ((hr c).1 (2 : Fin 4)).trans (finalA_wo m ρ c)⟩, hsem⟩

end Cert.KernelIdeal.Ring
-- ==== Proof.Frames.lean ====
/- # The frames

Each program ends, leaves its arguments as they were and every semaphore counter at zero: the runs of the kernel and of
its ideal reading with the result forgotten, and the reference's run. -/
module

public import proofs.«01_k».proof.Defs
public import proofs.«01_k».proof.Proof.KernelLaunch
public import proofs.«01_k».proof.Proof.KernelIdealLaunch
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Lib.Quiescent

@[expose] public section

noncomputable section

namespace Cert.Proof

open Idealize.ShloMosaic Idealize.SL.Sem

/-- The kernel on its bit patterns. -/
theorem frame_kernel : Cert.quiescent_Kernel (hKernel := Cert.Kernel.Gen.facts) := fun m g _ =>
  (θ_run _ _ _).mono (fun _ h => ⟨fun c => (h.1 c).2, h.2⟩) (Cert.Kernel.Ring.run_arrays (F := Bits) m g)

/-- The kernel on the extended reals. -/
theorem frame_ideal : Cert.quiescent_KernelIdeal (hKernelIdeal := Cert.KernelIdeal.Gen.facts) := fun m g _ =>
  (θ_run _ _ _).mono (fun _ h => ⟨fun c => (h.1 c).2, h.2⟩) (Cert.KernelIdeal.Ring.run_arrays (F := Ideal) m g)

/-- The reference on the extended reals. -/
theorem frame_reference : Cert.quiescent_ReferenceIdeal (hReferenceIdeal := Cert.ReferenceIdeal.Gen.facts) := fun m g _ =>
  (θ_run _ _ _).mono (fun r h => ⟨fun c => (h c).2, sem_eq_zero_of_no_sems (by decide) r.2⟩) (Cert.ReferenceIdeal.Value.run (F := Ideal) m g)

end Cert.Proof

end
-- ==== Proof.ValueReads.lean ====
module

public import proofs.«01_k».proof.Proof.KernelIdealProto
public import Idealize.ShloMosaic.Lib.Pointwise

/-!
# The kernel's payloads and reads at an index

Each stored value of the kernel's body on the extended reals, and each region it reads, element by element: the scaled
queries, a head's weights, weighted sum and total weight over a device's keys, one accumulation, one quotient, one step
of the output product.
-/

@[expose] public section

set_option maxRecDepth 16384

noncomputable section

namespace Cert.KernelIdeal.Ring

open Cert.KernelIdeal Cert.KernelIdeal.Gen
open Idealize.ShloMosaic
open Idealize.ShloMosaic.TcCoe
open Idealize.SL.Sem

/-- The scale of the scores. -/
abbrev scale : EReal := Ideal.ofBits .f32 0x3DB504F3#32

/-! ## The payloads -/

theorem pay_q (x : Vec Ideal S1x256x1024 .f32) (w : Vec Ideal S1024x1024 .f32) (i : Fin 256) (n : Fin 1024) :
    k0_pay1 x w (ix2 i n) = (∑ k : Fin 1024, x (ix3 0 i k) * w (ix2 k n)) * scale := by
  pointwise [k0_pay1]

theorem pay_e (q : Vec Ideal S256x128 .f32) (k : Vec Ideal S1x4096x128 .f32) (i : Fin 256) (j : Fin 4096) :
    k0_pay2 q k (ix2 i j) = Ideal.exp (∑ d : Fin 128, q (ix2 i d) * k (ix3 0 j d)) := by
  pointwise [k0_pay2]

theorem pay_o (q : Vec Ideal S256x128 .f32) (k v : Vec Ideal S1x4096x128 .f32) (i : Fin 256) (d : Fin 128) :
    k0_pay3 q k v (ix3 0 i d) = ∑ j : Fin 4096, k0_pay2 q k (ix2 i j) * v (ix3 0 j d) := by
  pointwise [k0_pay3]

theorem pay_l (q : Vec Ideal S256x128 .f32) (k : Vec Ideal S1x4096x128 .f32) (i : Fin 256) :
    k0_pay5 (k0_pay4 q k) (ix3 0 i 0) = ∑ j : Fin 4096, k0_pay2 q k (ix2 i j) := by
  pointwise [k0_pay5, k0_pay4]

theorem pay_add (a b : Vec Ideal S1x256x258 .bf16) (i : Fin 256) (n : Fin 258) :
    k0_pay31 a (asIn b) (ix3 0 i n) = a (ix3 0 i n) + b (ix3 0 i n) := by
  have h : asIn b (ix4 0 0 i n) = b (ix3 0 i n) := congrArg b (funext fun a => match a with
    | ⟨0, _⟩ => rfl
    | ⟨1, _⟩ => rfl
    | ⟨2, _⟩ => rfl)
  pointwise [k0_pay31]
  rw [h]

theorem pay_div (o : Vec Ideal S1x256x128 .bf16) (l : Vec Ideal S1x256x1 .bf16) (i : Fin 256) (d : Fin 128) :
    k0_pay42 o l (ix2 i d) = Ideal.div (o (ix3 0 i d)) (l (ix3 0 i 0)) := by
  pointwise [k0_pay42]

theorem pay_first (a : Vec Ideal S256x256 .f32) (w : Vec Ideal S256x1024 .f32) (i : Fin 256) (n : Fin 1024) :
    k0_pay43 a w (ix3 0 i n) = ∑ k : Fin 256, a (ix2 i k) * w (ix2 k n) := by
  pointwise [k0_pay43]

theorem pay_next (a : Vec Ideal S256x256 .f32) (w : Vec Ideal S256x1024 .f32) (o : Vec Ideal S1x256x1024 .f32) (i : Fin 256) (n : Fin 1024) :
    k0_pay48 a w o (ix3 0 i n) = o (ix3 0 i n) + ∑ k : Fin 256, a (ix2 i k) * w (ix2 k n) := by
  pointwise [k0_pay48]

/-! ## The regions -/

variable {F : FTy → Type} [FloatOps F]

omit [FloatOps F] in
theorem rdQ_at (h : Fin 8) (f : QC F) (i : Fin 256) (d : Fin 128) :
    rdQ h f (ix2 i d) = f (ix2 i ⟨128 * h.val + d.val, by omega⟩) :=
  congrArg f (funext fun a => match a with
    | ⟨0, _⟩ => Fin.ext (by show 0 + 1 * i.val = i.val; omega)
    | ⟨1, _⟩ => Fin.ext (by show 128 * h.val + 1 * d.val = 128 * h.val + d.val; omega))

omit [FloatOps F] in
theorem rdA_at (g : Fin 4) (k : Fin 2) (f : QC F) (i : Fin 256) (d : Fin 128) :
    rdA g k f (ix2 i d) = f (ix2 i ⟨256 * g.val + 128 * k.val + d.val, by omega⟩) :=
  congrArg f (funext fun a => match a with
    | ⟨0, _⟩ => Fin.ext (by show 0 + 1 * i.val = i.val; omega)
    | ⟨1, _⟩ => Fin.ext (by show 256 * g.val + 128 * k.val + 1 * d.val = 256 * g.val + 128 * k.val + d.val; omega))

omit [FloatOps F] in
theorem rdG_at (g : Fin 4) (f : QC F) (i : Fin 256) (n : Fin 256) :
    rdG g f (ix2 i n) = f (ix2 i ⟨256 * g.val + n.val, by omega⟩) :=
  congrArg f (funext fun a => match a with
    | ⟨0, _⟩ => Fin.ext (by show 0 + 1 * i.val = i.val; omega)
    | ⟨1, _⟩ => Fin.ext (by show 256 * g.val + 1 * n.val = 256 * g.val + n.val; omega))

omit [FloatOps F] in
theorem rdO_at (g : Fin 4) (k : Fin 2) (f : PackC F) (i : Fin 256) (d : Fin 128) :
    rdO g k f (ix3 0 i d) = f (ix3 g i ⟨128 * k.val + d.val, by omega⟩) :=
  congrArg f (funext fun a => match a with
    | ⟨0, _⟩ => Fin.ext (by show g.val + 1 * 0 = g.val; omega)
    | ⟨1, _⟩ => Fin.ext (by show 0 + 1 * i.val = i.val; omega)
    | ⟨2, _⟩ => Fin.ext (by show 128 * k.val + 1 * d.val = 128 * k.val + d.val; omega))

omit [FloatOps F] in
theorem rdL_at (g : Fin 4) (k : Fin 2) (f : PackC F) (i : Fin 256) :
    rdL g k f (ix3 0 i 0) = f (ix3 g i ⟨256 + k.val, by omega⟩) :=
  congrArg f (funext fun a => match a with
    | ⟨0, _⟩ => Fin.ext (by show g.val + 1 * 0 = g.val; omega)
    | ⟨1, _⟩ => Fin.ext (by show 0 + 1 * i.val = i.val; omega)
    | ⟨2, _⟩ => Fin.ext (by show 256 + k.val + 1 * 0 = 256 + k.val; omega))

omit [FloatOps F] in
theorem rdAcc_at (g : Fin 4) (f : PackC F) (i : Fin 256) (n : Fin 258) :
    rdAcc g f (ix3 0 i n) = f (ix3 g i ⟨n.val, by omega⟩) :=
  congrArg f (funext fun a => match a with
    | ⟨0, _⟩ => Fin.ext (by show g.val + 1 * 0 = g.val; omega)
    | ⟨1, _⟩ => Fin.ext (by show 0 + 1 * i.val = i.val; omega)
    | ⟨2, _⟩ => Fin.ext (by show 0 + 1 * n.val = n.val; omega))

omit [FloatOps F] in
/-- The output weights' rows of a group. -/
theorem rdW_at (g : Fin 4) (f : (cc0_stg2_0 : Ref sig .tc).ty.Contents (Elt F)) (k : Fin 256) (n : Fin 1024) :
    (woM.view.readAt (Elt F) (rW g).toLoadRect f : Vec F S256x1024 .f32) (ix2 k n) = f (ix2 ⟨256 * g.val + k.val, by omega⟩ n) :=
  congrArg f (funext fun a => match a with
    | ⟨0, _⟩ => Fin.ext (by show 256 * g.val + 1 * k.val = 256 * g.val + k.val; omega)
    | ⟨1, _⟩ => Fin.ext (by show 0 + 1 * n.val = n.val; omega))

/-- A head's element among a device's keys or values. -/
theorem rHead_emb (h : Fin 8) (j : Fin 4096) (d : Fin 128) :
    (rHead h).emb (ix4 (0 : Fin 1) j (0 : Fin 1) d : S1x4096x1x128.Idx) = (ix4 0 j h d : S1x4096x8x128.Idx) :=
  funext fun a => match a with
    | ⟨0, _⟩ => Fin.ext (by show 0 + 1 * 0 = 0; omega)
    | ⟨1, _⟩ => Fin.ext (by show 0 + 1 * j.val = j.val; omega)
    | ⟨2, _⟩ => Fin.ext (by show h.val + 1 * 0 = h.val; omega)
    | ⟨3, _⟩ => Fin.ext (by show 0 + 1 * d.val = d.val; omega)

/-- The element of a head in its own shape. -/
theorem squeeze_idx (e : S4096x128.numel = S1x4096x1x128.numel) (j : Fin 4096) (d : Fin 128) :
    Shape.reshapeEquiv e (ix2 j d) = (ix4 (0 : Fin 1) j (0 : Fin 1) d : S1x4096x1x128.Idx) := by
  pointwise

theorem slot_idx (j : Fin 4096) (d : Fin 128) :
    (fun a => ⟨((ix3 (0 : Fin 1) j d : S1x4096x128.Idx) a.succ).val, ((ix3 (0 : Fin 1) j d : S1x4096x128.Idx) a.succ).isLt⟩ : S4096x128.Idx) = ix2 j d :=
  funext fun a => match a with
    | ⟨0, _⟩ => rfl
    | ⟨1, _⟩ => rfl

omit [FloatOps F] in
theorem asSlot_at (w : Vec F S4096x128 .f32) (j : Fin 4096) (d : Fin 128) : asSlot w (ix3 0 j d) = w (ix2 j d) :=
  congrArg w (slot_idx j d)

omit [FloatOps F] in
/-- A head of the keys or values in its own shape. -/
theorem headOf_at (A : Memref sig .tc .hbm S1x4096x8x128 .f32) (h : Fin 8) (f : A.view.ref.ty.Contents (Elt F)) (j : Fin 4096) (d : Fin 128) :
    (headOf A h).view.read (Elt F) f (ix2 j d) = A.view.read (Elt F) f (ix4 0 j h d) := by
  show A.view.read (Elt F) f ((rHead h).emb (Shape.reshapeEquiv _ (ix2 j d))) = _
  exact congrArg (A.view.read (Elt F) f) ((congrArg (rHead h).emb (squeeze_idx _ j d)).trans (rHead_emb h j d))

omit [FloatOps F] in
theorem kBlk_at (h : Fin 8) (f : kM.view.ref.ty.Contents (Elt F)) (j : Fin 4096) (d : Fin 128) :
    kvBlk kM h f (ix3 0 j d) = kM.view.read (Elt F) f (ix4 0 j h d) := by
  unfold kvBlk
  rw [asSlot_at, headOf_at]
omit [FloatOps F] in
theorem vBlk_at (h : Fin 8) (f : vM.view.ref.ty.Contents (Elt F)) (j : Fin 4096) (d : Fin 128) :
    kvBlk vM h f (ix3 0 j d) = vM.view.read (Elt F) f (ix4 0 j h d) := by
  unfold kvBlk
  rw [asSlot_at, headOf_at]
omit [FloatOps F] in
theorem kM_read (f : kM.view.ref.ty.Contents (Elt F)) : kM.view.read (Elt F) f = f := rfl
omit [FloatOps F] in
theorem vM_read (f : vM.view.ref.ty.Contents (Elt F)) : vM.view.read (Elt F) f = f := rfl

end Cert.KernelIdeal.Ring
-- ==== Proof.ValueMath.lean ====
module

public import Idealize.ShloMosaic.PureOps.Ideal
public import Idealize.ShloMosaic.Lib.Pointwise

/-!
# Facts of the extended reals

Sums of reals, a positive real factor taken out of a sum and out of a quotient, the greatest of finitely many reals,
and a softmax's independence of the shift.
-/

@[expose] public section

noncomputable section

namespace Cert.Math

open Idealize.ShloMosaic

/-- A sum of reals is a real. -/
theorem sum_coe {ι : Type} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- A nonnegative real factor goes through a sum. -/
theorem mul_sum_coe {ι : Type} (s : Finset ι) (t : ℝ) (ht : 0 ≤ t) (f : ι → EReal) :
    ∑ k ∈ s, (t : EReal) * f k = (t : EReal) * ∑ k ∈ s, f k := by
  classical
  induction s using Finset.induction_on with
  | empty => simp
  | insert a s ha ih =>
    rw [Finset.sum_insert ha, Finset.sum_insert ha, ih,
      EReal.left_distrib_of_nonneg_of_ne_top (EReal.coe_nonneg.mpr ht) (EReal.coe_ne_top t)]

/-- A positive real factor of both leaves a quotient. -/
theorem div_factor (t l : ℝ) (ht : 0 < t) (hl : 0 < l) (o : EReal) :
    Ideal.div ((t : EReal) * o) ((t * l : ℝ) : EReal) = Ideal.div o (l : EReal) := by
  rw [Ideal.div_coe (mul_pos ht hl).ne', Ideal.div_coe hl.ne', mul_comm (t : EReal) o, mul_assoc, ← EReal.coe_mul]
  congr 2
  field_simp

/-- The greatest of finitely many reals, at least one, is a real. -/
theorem fold_max_coe {n : ℕ} (f : Fin (n + 1) → ℝ) :
    ∃ M : ℝ, Finset.univ.fold max (⊥ : EReal) (fun k => ((f k : ℝ) : EReal)) = (M : EReal) := by
  obtain ⟨k, -, hk⟩ := Finset.exists_mem_eq_sup (Finset.univ : Finset (Fin (n + 1))) ⟨0, Finset.mem_univ _⟩ (fun k => ((f k : ℝ) : EReal))
  exact ⟨f k, hk⟩

theorem exp_coe (r : ℝ) : Ideal.exp (r : EReal) = ((Real.exp r : ℝ) : EReal) := rfl

/-- A weighted mean under the weights `e ^ (s - M)` is the one under the weights `e ^ s`. -/
theorem mean_shift {n : ℕ} (M : ℝ) (s : Fin (n + 1) → ℝ) (v : Fin (n + 1) → EReal) :
    Ideal.div (∑ j, v j * Ideal.exp ((s j : EReal) - (M : EReal))) (∑ j, Ideal.exp ((s j : EReal) - (M : EReal)))
      = Ideal.div (∑ j, ((Real.exp (s j) : ℝ) : EReal) * v j) (∑ j, ((Real.exp (s j) : ℝ) : EReal)) := by
  have he : ∀ j, Ideal.exp ((s j : EReal) - (M : EReal)) = ((Real.exp (-M) * Real.exp (s j) : ℝ) : EReal) := fun j => by
    rw [← EReal.coe_sub, exp_coe, ← Real.exp_add]; congr 2; ring
  have hv : ∀ j, v j * Ideal.exp ((s j : EReal) - (M : EReal)) = ((Real.exp (-M) : ℝ) : EReal) * (((Real.exp (s j) : ℝ) : EReal) * v j) := fun j => by
    rw [he, mul_comm, EReal.coe_mul, mul_assoc]
  rw [Finset.sum_congr rfl fun j _ => hv j, Finset.sum_congr rfl fun j _ => he j,
    mul_sum_coe _ _ (Real.exp_pos _).le, sum_coe, sum_coe, ← Finset.mul_sum]
  exact div_factor _ _ (Real.exp_pos _) (Finset.sum_pos (fun j _ => Real.exp_pos _) ⟨0, Finset.mem_univ _⟩) _

/-- An extended real of finite absolute value is a real. -/
theorem coe_of_abs_lt (x : EReal) (h : (FloatOps.cmpf .olt (FloatOps.hostAbsf (F := Ideal) (φ := .f32) x) (Ideal.ofBits .f32 0x7F800000#32) : BitVec 1) = 1#1) :
    ∃ r : ℝ, x = (r : EReal) := by
  have htop : Ideal.ofBits .f32 0x7F800000#32 = ⊤ := by simp [Ideal.ofBits, Ideal.ieee]
  rw [htop] at h
  have h' : BitVec.ofBool (decide (max x (-x) < ⊤)) = 1#1 := h
  induction x with
  | bot => exact absurd h' (by simp)
  | coe r => exact ⟨r, rfl⟩
  | top => exact absurd h' (by simp)

/-- The scale of the scores is a real. -/
theorem scale_coe : ∃ r : ℝ, Ideal.ofBits .f32 0x3DB504F3#32 = (r : EReal) := by
  show ∃ r : ℝ, Ideal.ieee 8 23 0x3DB504F3#32 = (r : EReal)
  unfold Ideal.ieee
  dsimp only
  rw [if_neg (by decide), if_neg (by decide)]
  exact ⟨_, rfl⟩

end Cert.Math
-- ==== Proof.ValueKernel.lean ====
module

public import proofs.«01_k».proof.Proof.ValueReads
public import proofs.«01_k».proof.Proof.ValueMath

/-!
# What the kernel leaves in its result, element by element

The three rounds of a group's exchange add up all eight devices' partial sums on every device; a head's attention is the
quotient of the summed weighted values by the summed weights; the four groups' products make the whole output product.
-/

@[expose] public section

set_option maxRecDepth 16384

noncomputable section

namespace Cert.KernelIdeal.Ring

open Cert.KernelIdeal Cert.KernelIdeal.Gen
open Idealize.ShloMosaic
open Idealize.ShloMosaic.TcCoe
open Idealize.SL.Sem

variable (m : (ℓ : Loc nD τ sig) → Buf (Elt Ideal) ℓ) (ρ : Dev nD → PrngReg)

/-! ## The exchange -/

/-- Three rounds, each adding the neighbour's sum along the group's next axis, add up all eight devices. -/
theorem three_rounds (f : Dev nD → EReal) (g : Fin 4) (c : Dev nD) :
    ((f c + f (flip (bitOf g 0) c)) + (f (flip (bitOf g 1) c) + f (flip (bitOf g 0) (flip (bitOf g 1) c))))
      + ((f (flip (bitOf g 2) c) + f (flip (bitOf g 0) (flip (bitOf g 2) c)))
        + (f (flip (bitOf g 1) (flip (bitOf g 2) c)) + f (flip (bitOf g 0) (flip (bitOf g 1) (flip (bitOf g 2) c))))) = ∑ c' : Dev nD, f c' := by
  let l : Fin 8 → Dev nD := ![c, flip (bitOf g 0) c, flip (bitOf g 1) c, flip (bitOf g 0) (flip (bitOf g 1) c), flip (bitOf g 2) c,
    flip (bitOf g 0) (flip (bitOf g 2) c), flip (bitOf g 1) (flip (bitOf g 2) c), flip (bitOf g 0) (flip (bitOf g 1) (flip (bitOf g 2) c))]
  have hl : Function.Bijective l := by
    refine (Finite.injective_iff_bijective).mp ?_
    have : ∀ (g : Fin 4) (c : Dev nD), Function.Injective (![c, flip (bitOf g 0) c, flip (bitOf g 1) c, flip (bitOf g 0) (flip (bitOf g 1) c), flip (bitOf g 2) c,
      flip (bitOf g 0) (flip (bitOf g 2) c), flip (bitOf g 1) (flip (bitOf g 2) c), flip (bitOf g 0) (flip (bitOf g 1) (flip (bitOf g 2) c))] : Fin 8 → Dev nD) := by
      unfold Function.Injective
      decide +kernel
    exact this g c
  rw [← Function.Bijective.sum_comp hl f, Fin.sum_univ_eight]
  show _ = f c + f (flip (bitOf g 0) c) + f (flip (bitOf g 1) c) + f (flip (bitOf g 0) (flip (bitOf g 1) c)) + f (flip (bitOf g 2) c)
    + f (flip (bitOf g 0) (flip (bitOf g 2) c)) + f (flip (bitOf g 1) (flip (bitOf g 2) c)) + f (flip (bitOf g 0) (flip (bitOf g 1) (flip (bitOf g 2) c)))
  simp only [add_assoc]

theorem sums_succ_at (r : ℕ) (c : Dev nD) (g : Fin 4) (i : Fin 256) (n : Fin 258) :
    sums m ρ (r + 1) c g (ix3 0 i n) = (sums m ρ r c g (ix3 0 i n) + sums m ρ r (flip (bitOf g r) c) g (ix3 0 i n) : EReal) :=
  pay_add _ _ i n

/-- After the last round: the sum over all devices. -/
theorem sums_at (c : Dev nD) (g : Fin 4) (i : Fin 256) (n : Fin 258) :
    sums m ρ 3 c g (ix3 0 i n) = (∑ c' : Dev nD, sums m ρ 0 c' g (ix3 0 i n) : EReal) := by
  simp only [sums_succ_at]
  exact three_rounds (fun c' => sums m ρ 0 c' g (ix3 0 i n)) g c

/-- Before the first: each head's weighted sum and weights. -/
theorem sums_O (c : Dev nD) (g : Fin 4) (k : Fin 2) (i : Fin 256) (d : Fin 128) :
    sums m ρ 0 c g (ix3 0 i ⟨128 * k.val + d.val, by omega⟩) = oAt m ρ c (hd g k) (ix3 0 i d) := by
  rw [← base_O m ρ c g k, rdO_at]
  exact rdAcc_at g _ i _

theorem sums_L (c : Dev nD) (g : Fin 4) (k : Fin 2) (i : Fin 256) :
    sums m ρ 0 c g (ix3 0 i ⟨256 + k.val, by omega⟩) = lAt m ρ c (hd g k) (ix3 0 i 0) := by
  rw [← base_L m ρ c g k, rdL_at]
  exact rdAcc_at g _ i _

/-- A group's columns at the end are its last sums. -/
theorem fin_at (c : Dev nD) (g : Fin 4) (i : Fin 256) (n : Fin 258) :
    fin m ρ c g (ix3 g i ⟨n.val, by omega⟩) = sums m ρ 3 c g (ix3 0 i n) := by
  rw [← rdAcc_at g (fin m ρ c g) i n]
  unfold fin
  rw [rdAcc_wrAcc]

/-- A head's attention. -/
theorem meanAt_at (c : Dev nD) (g : Fin 4) (k : Fin 2) (i : Fin 256) (d : Fin 128) :
    meanAt m ρ c g k (ix2 i d)
      = Ideal.div (∑ c' : Dev nD, (oAt m ρ c' (hd g k) (ix3 0 i d) : EReal)) (∑ c' : Dev nD, (lAt m ρ c' (hd g k) (ix3 0 i 0) : EReal)) := by
  unfold meanAt
  rw [pay_div, rdO_at, rdL_at]
  have hO := fin_at m ρ c g i ⟨128 * k.val + d.val, by omega⟩
  have hL := fin_at m ρ c g i ⟨256 + k.val, by omega⟩
  refine congrArg₂ Ideal.div (hO.trans ?_) (hL.trans ?_)
  · exact (sums_at m ρ c g i _).trans (Finset.sum_congr (M := EReal) rfl fun c' _ => sums_O m ρ c' g k i d)
  · exact (sums_at m ρ c g i _).trans (Finset.sum_congr (M := EReal) rfl fun c' _ => sums_L m ρ c' g k i)

/-- A group's attention columns. -/
theorem att_at (c : Dev nD) (g : Fin 4) (k : Fin 2) (i : Fin 256) (d : Fin 128) :
    attAt m ρ c g (ix2 i ⟨128 * k.val + d.val, by omega⟩) = meanAt m ρ c g k (ix2 i d) := by
  have h01 : (0 : Fin 2) ≠ 1 := by decide
  have h : rdA g k (wrA g 1 (wrA g 0 (qAt m ρ c) (meanAt m ρ c g 0)) (meanAt m ρ c g 1)) = meanAt m ρ c g k := by
    fin_cases k
    · show rdA (F := Ideal) g 0 _ = meanAt m ρ c g 0
      exact (rdA_wrA_ne g h01 _ _).trans (rdA_wrA g 0 _ _)
    · show rdA (F := Ideal) g 1 _ = meanAt m ρ c g 1
      exact rdA_wrA g 1 _ _
  rw [← h, rdA_at]
  unfold attAt
  rw [rdG_at]
  exact congrArg _ (congrArg _ (Fin.ext (by show 256 * g.val + (128 * k.val + d.val) = 256 * g.val + 128 * k.val + d.val; omega)))

/-! ## A head on one device -/

/-- The weight of device `c`'s key `j` for query `i` of head `h`. -/
def wAt (c : Dev nD) (h : Fin 8) (i : Fin 256) (j : Fin 4096) : EReal :=
  Ideal.exp (∑ d : Fin 128, (∑ k : Fin 1024, (show EReal from xAt m ρ c (ix3 0 i k)) * (show EReal from wqAt m ρ c (ix2 k ⟨128 * h.val + d.val, by omega⟩))) * scale
    * kM.view.read (Elt Ideal) (kAt m ρ c) (ix4 0 j h d))

theorem pay_w (c : Dev nD) (h : Fin 8) (i : Fin 256) (j : Fin 4096) :
    k0_pay2 (rdQ h (qAt m ρ c)) (kvBlk kM h (kAt m ρ c)) (ix2 i j) = wAt m ρ c h i j := by
  rw [pay_e]
  unfold wAt
  refine congrArg Ideal.exp (Finset.sum_congr rfl fun d _ => ?_)
  rw [rdQ_at, kBlk_at]
  unfold qAt
  rw [pay_q]

theorem o_at (c : Dev nD) (h : Fin 8) (i : Fin 256) (d : Fin 128) :
    oAt m ρ c h (ix3 0 i d) = (∑ j : Fin 4096, wAt m ρ c h i j * vM.view.read (Elt Ideal) (vAt m ρ c) (ix4 0 j h d) : EReal) := by
  unfold oAt
  rw [pay_o]
  exact Finset.sum_congr rfl fun j _ => by rw [pay_w, vBlk_at]

theorem l_at (c : Dev nD) (h : Fin 8) (i : Fin 256) :
    lAt m ρ c h (ix3 0 i 0) = (∑ j : Fin 4096, wAt m ρ c h i j : EReal) := by
  unfold lAt
  rw [pay_l]
  exact Finset.sum_congr rfl fun j _ => by rw [pay_w]

/-! ## The result -/

/-- Query `i`'s attention of head `h`, column `d`. -/
def attn (h : Fin 8) (i : Fin 256) (d : Fin 128) : EReal :=
  Ideal.div (∑ c : Dev nD, ∑ j : Fin 4096, wAt m ρ c h i j * vM.view.read (Elt Ideal) (vAt m ρ c) (ix4 0 j h d)) (∑ c : Dev nD, ∑ j : Fin 4096, wAt m ρ c h i j)

theorem att_attn (c : Dev nD) (g : Fin 4) (i : Fin 256) (n : Fin 256) :
    attAt m ρ c g (ix2 i n) = attn m ρ ⟨(256 * g.val + n.val) / 128, by omega⟩ i ⟨(256 * g.val + n.val) % 128, Nat.mod_lt _ (by decide)⟩ := by
  have h := att_at m ρ c g ⟨n.val / 128, by omega⟩ i ⟨n.val % 128, Nat.mod_lt _ (by decide)⟩
  have e : (⟨128 * (n.val / 128) + n.val % 128, by omega⟩ : Fin 256) = n := Fin.ext (Nat.div_add_mod _ _)
  rw [show (⟨128 * ((⟨n.val / 128, by omega⟩ : Fin 2)).val + ((⟨n.val % 128, Nat.mod_lt _ (by decide)⟩ : Fin 128)).val, by omega⟩ : Fin 256) = n from e] at h
  rw [h, meanAt_at]
  have eh : hd g ⟨n.val / 128, by omega⟩ = (⟨(256 * g.val + n.val) / 128, by omega⟩ : Fin 8) := Fin.ext (by show 2 * g.val + n.val / 128 = (256 * g.val + n.val) / 128; omega)
  have ed : (⟨n.val % 128, Nat.mod_lt _ (by decide)⟩ : Fin 128) = ⟨(256 * g.val + n.val) % 128, Nat.mod_lt _ (by decide)⟩ := Fin.ext (by show n.val % 128 = (256 * g.val + n.val) % 128; omega)
  rw [eh, ed]
  unfold attn
  simp only [o_at, l_at]

/-- One group's part of the output product. -/
theorem part_at (c : Dev nD) (g : Fin 4) (i : Fin 256) (n : Fin 1024) :
    (∑ k : Fin 256, (attAt m ρ c g (ix2 i k) : EReal) * woRd m ρ c g (ix2 k n))
      = ∑ k : Fin 256, attn m ρ ⟨(256 * g.val + k.val) / 128, by omega⟩ i ⟨(256 * g.val + k.val) % 128, Nat.mod_lt _ (by decide)⟩
          * woAt m ρ c (ix2 ⟨256 * g.val + k.val, by omega⟩ n) :=
  Finset.sum_congr rfl fun k _ => by
    rw [att_attn]
    exact congrArg _ (rdW_at g (woAt m ρ c) k n)

/-- The result on every device. -/
theorem out_at (c : Dev nD) (i : Fin 256) (n : Fin 1024) :
    outAt m ρ c (ix3 0 i n)
      = (∑ t : Fin 1024, attn m ρ ⟨t.val / 128, by omega⟩ i ⟨t.val % 128, Nat.mod_lt _ (by decide)⟩ * woAt m ρ c (ix2 t n) : EReal) := by
  have e : outAt m ρ c (ix3 0 i n) = (((∑ k : Fin 256, (attAt m ρ c 0 (ix2 i k) : EReal) * woRd m ρ c 0 (ix2 k n)) + ∑ k : Fin 256, (attAt m ρ c 1 (ix2 i k) : EReal) * woRd m ρ c 1 (ix2 k n))
      + ∑ k : Fin 256, (attAt m ρ c 2 (ix2 i k) : EReal) * woRd m ρ c 2 (ix2 k n)) + ∑ k : Fin 256, (attAt m ρ c 3 (ix2 i k) : EReal) * woRd m ρ c 3 (ix2 k n) := by
    show k0_pay48 (attAt m ρ c 3) (woRd m ρ c 3) (k0_pay48 (attAt m ρ c 2) (woRd m ρ c 2) (k0_pay48 (attAt m ρ c 1) (woRd m ρ c 1) (k0_pay43 (attAt m ρ c 0) (woRd m ρ c 0)))) (ix3 0 i n) = _
    rw [pay_next, pay_next, pay_next, pay_first]
  rw [e, part_at, part_at, part_at, part_at, Fin.sum_univ_tiles 4 256 rfl, Fin.sum_univ_four]
  simp only [mul_comm 256]

end Cert.KernelIdeal.Ring
-- ==== Proof.ValueReference.lean ====
module

public import proofs.«01_k».proof.Proof.Gen.ReferenceIdeal
public import proofs.«01_k».proof.Proof.Gen.ReferenceIdeal.Run
public import Idealize.ShloMosaic.Lib.Pointwise

/-!
# What the reference leaves in its result, element by element
-/

@[expose] public section

set_option maxRecDepth 16384

noncomputable section

namespace Cert.ReferenceIdeal.Read

open Cert.ReferenceIdeal Cert.ReferenceIdeal.Gen Idealize.ShloMosaic Idealize.ShloMosaic.TcCoe Idealize.SL.Sem

variable (x : FVec Ideal S1x256x1024 .f32) (wq : FVec Ideal S1024x1024 .f32) (k v : FVec Ideal S1x32768x8x128 .f32) (wo : FVec Ideal S1024x1024 .f32)

/-- The scores. -/
def score : FVec Ideal S1x8x256x32768 .f32 :=
  mulf (Host.dotGeneral dot_S1x256x8x128_S1x32768x8x128_S1x8x256x32768_3_3_1_1_02_02 none
    (shapeCast S1x256x8x128 (Host.dotGeneral dot_S1x256x1024_S1024x1024_S1x256x1024_2_0_01_1_n_n none x wq) shapeCasts_S1x256x1024_S1x256x8x128) k)
    (broadcastInDim S1x8x256x32768 ![] bcast_S_S1x8x256x32768 (constant S_ .f32 0x3DB504F3#32))

/-- The greatest score of each query. -/
def top : FVec Ideal S1x8x256 .f32 :=
  Host.reduce FloatOps.maximumf (score x wq k) (constant S_ .f32 0xFF800000#32) reducesTo_S1x8x256x32768_S1x8x256_d3 h_S_

/-- The weights. -/
def weight : FVec Ideal S1x8x256x32768 .f32 :=
  Host.exp (subf (score x wq k) (broadcastInDim S1x8x256x32768 ![0, 1, 2, 3] bcast_S1x8x256x1_S1x8x256x32768_0_1_2_3
    (broadcastInDim S1x8x256x1 ![0, 1, 2] bcast_S1x8x256_S1x8x256x1_0_1_2 (top x wq k))))

/-- The weighted mean of the values. -/
def mean : FVec Ideal S1x256x8x128 .f32 :=
  Host.divf (transpose S1x256x8x128 [0, 3, 1, 2]
      (Host.dotGeneral dot_S1x32768x8x128_S1x8x256x32768_S1x8x128x256_1_3_3_2_02_01 none v (weight x wq k)) transposes_S1x8x128x256_S1x256x8x128_0_3_1_2)
    (broadcastInDim S1x256x8x128 ![0, 1, 2, 3] bcast_S1x256x8x1_S1x256x8x128_0_1_2_3
      (transpose S1x256x8x1 [0, 2, 1, 3] (broadcastInDim S1x8x256x1 ![0, 1, 2] bcast_S1x8x256_S1x8x256x1_0_1_2
        (Host.reduceAdd (weight x wq k) (constant S_ .f32 0x00000000#32) reducesTo_S1x8x256x32768_S1x8x256_d3 h_S_)) transposes_S1x8x256x1_S1x256x8x1_0_2_1_3))

/-- The result. -/
def result : FVec Ideal S1x256x1024 .f32 :=
  Host.dotGeneral dot_S1x256x1024_S1024x1024_S1x256x1024_2_0_01_1_n_n none
    (shapeCast S1x256x1024 (mean x wq k v) shapeCasts_S1x256x8x128_S1x256x1024) wo

theorem score_at (h : Fin 8) (i : Fin 256) (j : Fin 32768) :
    score x wq k (ix4 0 h i j) = (∑ d : Fin 128, (∑ t : Fin 1024, x (ix3 0 i t) * wq (ix2 t ⟨h.val * 128 + d.val, by omega⟩)) * k (ix4 0 j h d))
      * Ideal.ofBits .f32 0x3DB504F3#32 := by
  pointwise [score]

theorem top_at (h : Fin 8) (i : Fin 256) :
    top x wq k (ix3 0 h i) = Finset.univ.fold max (⊥ : EReal) (fun j : Fin 32768 => score x wq k (ix4 0 h i j)) := by
  have hbot : Ideal.ofBits .f32 0xFF800000#32 = ⊥ := by simp [Ideal.ofBits, Ideal.ieee]
  pointwise [top]
  rw [hbot]

theorem weight_at (h : Fin 8) (i : Fin 256) (j : Fin 32768) :
    weight x wq k (ix4 0 h i j) = Ideal.exp (score x wq k (ix4 0 h i j) - top x wq k (ix3 0 h i)) := by
  pointwise [weight]

theorem mean_at (i : Fin 256) (h : Fin 8) (d : Fin 128) :
    mean x wq k v (ix4 0 i h d) = Ideal.div (∑ j : Fin 32768, v (ix4 0 j h d) * weight x wq k (ix4 0 h i j)) (∑ j : Fin 32768, weight x wq k (ix4 0 h i j)) := by
  pointwise [mean]

theorem result_at (i : Fin 256) (n : Fin 1024) :
    result x wq k v wo (ix3 0 i n) = ∑ t : Fin 1024, mean x wq k v (ix4 0 i ⟨t.val / 128, by omega⟩ ⟨t.val % 128, Nat.mod_lt _ (by decide)⟩) * wo (ix2 t n) := by
  pointwise [result]

/-- The reference's run. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v18) = result (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Cert.ReferenceIdeal.Value.run m ρ

end Cert.ReferenceIdeal.Read
-- ==== Proof.Value.lean ====
module

public import proofs.«01_k».proof.Defs
public import proofs.«01_k».proof.Proof.Gen.KernelIdeal
public import proofs.«01_k».proof.Proof.Gen.ReferenceIdeal
public import proofs.«01_k».proof.Proof.KernelIdealLaunch
public import proofs.«01_k».proof.Proof.ValueKernel
public import proofs.«01_k».proof.Proof.ValueReference

/-!
# The kernel computes the reference's attention

With real activations, query weights and keys every score is real. Then each weight of the kernel is the exponential of
the reference's score, the eight devices' sums over 4096 keys are one sum over 32768, and the reference's shift by the
greatest score leaves the quotient of the two sums as it is.
-/

@[expose] public section

set_option maxRecDepth 16384

noncomputable section

namespace Cert.Proof

open Idealize.ShloMosaic Idealize.ShloMosaic.TcCoe Idealize.SL.Sem
open Cert.KernelIdeal.Gen Cert.ReferenceIdeal.Gen
open Cert.ReferenceIdeal (S1x256x1024 S1024x1024 S1x32768x8x128)
open Cert.ReferenceIdeal.Read Cert.KernelIdeal.Ring

/-! ## The block layout -/

abbrev SBlk : Shape := ⟨4, ![1, 4096, 8, 128]⟩
abbrev SAll : Shape := ⟨4, ![1, 32768, 8, 128]⟩

/-- Key `j` of device `c`'s block is key `4096 c + j` of the whole. -/
theorem block_at (h : Layout.Tiles SBlk SAll 1 8) (c : Fin 8) (a : SAll.Idx → EReal) (j : Fin 4096) (k : Fin 8) (d : Fin 128) :
    Layout.block SBlk SAll 1 8 c a h (ix4 0 j k d) = a (ix4 0 ⟨c.val * 4096 + j.val, by omega⟩ k d) :=
  congrArg a (funext fun b => match b with
    | ⟨0, _⟩ => Fin.ext rfl
    | ⟨1, _⟩ => Fin.ext rfl
    | ⟨2, _⟩ => Fin.ext rfl
    | ⟨3, _⟩ => Fin.ext rfl)

section Attention

variable (X : Fin 256 → Fin 1024 → ℝ) (W : Fin 1024 → Fin 1024 → ℝ) (K : Fin 32768 → Fin 8 → Fin 128 → ℝ) (s : ℝ)

/-- The real score of query `i` and key `j` in head `h`. -/
def sc (h : Fin 8) (i : Fin 256) (j : Fin 32768) : ℝ :=
  (∑ d : Fin 128, (∑ t : Fin 1024, X i t * W t ⟨128 * h.val + d.val, by omega⟩) * K j h d) * s

variable (x : FVec Ideal S1x256x1024 .f32) (wq : FVec Ideal S1024x1024 .f32) (k v : FVec Ideal S1x32768x8x128 .f32) (wo : FVec Ideal S1024x1024 .f32)
  (hX : ∀ i t, x (ix3 0 i t) = (X i t : EReal)) (hW : ∀ t n, wq (ix2 t n) = (W t n : EReal))
  (hK : ∀ j h d, k (ix4 0 j h d) = (K j h d : EReal)) (hs : scale = (s : EReal))

include hX hW in
/-- A query's element is real. -/
theorem query_real (i : Fin 256) (n : Fin 1024) :
    (∑ t : Fin 1024, x (ix3 0 i t) * wq (ix2 t n) : EReal) = ((∑ t : Fin 1024, X i t * W t n : ℝ) : EReal) := by
  rw [← Math.sum_coe]
  exact Finset.sum_congr rfl fun t _ => by rw [hX, hW, EReal.coe_mul]

include hX hW hK hs in
/-- The reference's score is the real one. -/
theorem score_real (h : Fin 8) (i : Fin 256) (j : Fin 32768) : score x wq k (ix4 0 h i j) = (sc X W K s h i j : EReal) := by
  have e : ∀ d : Fin 128, (∑ t : Fin 1024, x (ix3 0 i t) * wq (ix2 t ⟨h.val * 128 + d.val, by omega⟩) : EReal) * k (ix4 0 j h d)
      = (((∑ t : Fin 1024, X i t * W t ⟨128 * h.val + d.val, by omega⟩) * K j h d : ℝ) : EReal) := fun d => by
    rw [query_real X W x wq hX hW, hK, ← EReal.coe_mul]
    simp only [mul_comm h.val 128]
  rw [score_at, Finset.sum_congr rfl fun d _ => e d, Math.sum_coe, show Ideal.ofBits .f32 0x3DB504F3#32 = (s : EReal) from hs, ← EReal.coe_mul]
  rfl

include hX hW hK hs in
/-- The reference's attention is the quotient of the unshifted sums. -/
theorem mean_real (h : Fin 8) (i : Fin 256) (d : Fin 128) :
    mean x wq k v (ix4 0 i h d)
      = Ideal.div (∑ j : Fin 32768, ((Real.exp (sc X W K s h i j) : ℝ) : EReal) * v (ix4 0 j h d)) (∑ j : Fin 32768, ((Real.exp (sc X W K s h i j) : ℝ) : EReal)) := by
  obtain ⟨M, hM⟩ := Math.fold_max_coe (n := 32767) (sc X W K s h i)
  have ht : top x wq k (ix3 0 h i) = (M : EReal) := by
    rw [top_at, ← hM]
    exact congrArg (fun f => Finset.univ.fold max (⊥ : EReal) f) (funext fun j => score_real X W K s x wq k hX hW hK hs h i j)
  have hw : ∀ j, weight x wq k (ix4 0 h i j) = Ideal.exp ((sc X W K s h i j : EReal) - (M : EReal)) := fun j => by
    rw [weight_at, score_real X W K s x wq k hX hW hK hs, ht]
  rw [mean_at]
  simp only [hw]
  exact Math.mean_shift (n := 32767) M (sc X W K s h i) (fun j => v (ix4 0 j h d))

variable (m : (ℓ : Loc Cert.KernelIdeal.nD Cert.KernelIdeal.τ Cert.KernelIdeal.sig) → Buf (Elt Ideal) ℓ) (ρ : Dev Cert.KernelIdeal.nD → PrngReg)
  (tl : Layout.Tiles SBlk SAll 1 8)
  (ex : ∀ c, xAt m ρ c = x) (ewq : ∀ c, wqAt m ρ c = wq) (ewo : ∀ c, woAt m ρ c = wo)
  (ek : ∀ c, kAt m ρ c = Layout.block SBlk SAll 1 8 c k tl) (ev : ∀ c, vAt m ρ c = Layout.block SBlk SAll 1 8 c v tl)

include hX hW hK hs ex ewq ek in
/-- The kernel's weight is the exponential of the real score. -/
theorem w_real (c : Dev Cert.KernelIdeal.nD) (h : Fin 8) (i : Fin 256) (j : Fin 4096) :
    wAt m ρ c h i j = ((Real.exp (sc X W K s h i ⟨c.val * 4096 + j.val, by have := c.isLt; have : c.val < 8 := this; omega⟩) : ℝ) : EReal) := by
  have e : ∀ d : Fin 128, (∑ t : Fin 1024, (show EReal from xAt m ρ c (ix3 0 i t)) * (show EReal from wqAt m ρ c (ix2 t ⟨128 * h.val + d.val, by omega⟩))) * scale
        * (show EReal from kM.view.read (Elt Ideal) (kAt m ρ c) (ix4 0 j h d))
      = (((∑ t : Fin 1024, X i t * W t ⟨128 * h.val + d.val, by omega⟩) * K ⟨c.val * 4096 + j.val, by have := c.isLt; have : c.val < 8 := this; omega⟩ h d * s : ℝ) : EReal) := fun d => by
    have h1 : (∑ t : Fin 1024, (show EReal from xAt m ρ c (ix3 0 i t)) * (show EReal from wqAt m ρ c (ix2 t ⟨128 * h.val + d.val, by omega⟩)))
        = ((∑ t : Fin 1024, X i t * W t ⟨128 * h.val + d.val, by omega⟩ : ℝ) : EReal) := by
      rw [ex, ewq]; exact query_real X W x wq hX hW i _
    have h2 : (show EReal from kM.view.read (Elt Ideal) (kAt m ρ c) (ix4 0 j h d)) = (K ⟨c.val * 4096 + j.val, by have := c.isLt; have : c.val < 8 := this; omega⟩ h d : EReal) := by
      rw [kM_read, ek]; exact (block_at tl c k j h d).trans (hK _ _ _)
    rw [h1, h2, hs, ← EReal.coe_mul, ← EReal.coe_mul]
    congr 1
    ring
  unfold wAt
  refine (congrArg Ideal.exp (Finset.sum_congr rfl fun d _ => e d)).trans ?_
  rw [Math.sum_coe, Math.exp_coe, ← Finset.sum_mul]
  rfl

include hX hW hK hs ex ewq ek ev in
/-- The kernel's attention is the reference's. -/
theorem attn_eq (h : Fin 8) (i : Fin 256) (d : Fin 128) : attn m ρ h i d = mean x wq k v (ix4 0 i h d) := by
  rw [mean_real X W K s x wq k v hX hW hK hs, Fin.sum_univ_tiles 8 4096 rfl, Fin.sum_univ_tiles 8 4096 rfl]
  unfold attn
  refine congrArg₂ Ideal.div (Finset.sum_congr rfl fun c _ => Finset.sum_congr rfl fun j _ => ?_) (Finset.sum_congr rfl fun c _ => Finset.sum_congr rfl fun j _ => ?_)
  · rw [w_real X W K s x wq k hX hW hK hs m ρ tl ex ewq ek c h i j, vM_read, ev]
    exact congrArg _ (block_at tl c v j h d)
  · exact w_real X W K s x wq k hX hW hK hs m ρ tl ex ewq ek c h i j

include hX hW hK hs ex ewq ewo ek ev in
/-- The kernel's result is the reference's, on every device. -/
theorem out_eq (c : Dev Cert.KernelIdeal.nD) : outAt m ρ c = result x wq k v wo := by
  funext y
  obtain ⟨i, n, rfl⟩ : ∃ (i : Fin 256) (n : Fin 1024), y = ix3 0 i n := ⟨y 1, y 2, by
    funext b
    match b with
    | ⟨0, _⟩ => exact Fin.ext (Nat.lt_one_iff.mp (y 0).isLt)
    | ⟨1, _⟩ => rfl
    | ⟨2, _⟩ => rfl⟩
  refine (out_at m ρ c i n).trans ?_
  rw [result_at]
  refine Finset.sum_congr (M := EReal) rfl fun t _ => ?_
  rw [attn_eq X W K s x wq k v hX hW hK hs m ρ tl ex ewq ek ev, ewo]

end Attention

/-! ## The claims -/

/-- The precondition's shape facts. -/
theorem preK : Cert.Pre_finite_scores_KernelIdeal.Facts := ⟨by decide, by decide, by decide⟩
theorem preR : Cert.Pre_finite_scores_ReferenceIdeal.Facts := ⟨by decide, by decide, by decide⟩

/-- Every device ends with the reference's result. -/
theorem value : Cert.algebraic_KernelIdeal_ReferenceIdeal_pre_finite_scores_KernelIdeal (hKernelIdeal := Cert.KernelIdeal.Gen.facts)
    (hReferenceIdeal := Cert.ReferenceIdeal.Gen.facts) (hPre_finite_scores_KernelIdeal := preK) := by
  intro m g m' g' hpre harg
  have hx : ∀ i : Fin 256, ∀ t : Fin 1024, ∃ r : ℝ, (show EReal from m' (((0 : Dev Cert.ReferenceIdeal.nD) : Thread Cert.ReferenceIdeal.nD Cert.ReferenceIdeal.τ).loc Cert.ReferenceIdeal.main_arg0) (ix3 0 i t)) = (r : EReal) := fun i t => by
    have h := congrFun (hpre 0).1 (ix3 0 i t)
    rw [(harg 0).1] at h
    exact Math.coe_of_abs_lt _ h
  have hw : ∀ t n : Fin 1024, ∃ r : ℝ, (show EReal from m' (((0 : Dev Cert.ReferenceIdeal.nD) : Thread Cert.ReferenceIdeal.nD Cert.ReferenceIdeal.τ).loc Cert.ReferenceIdeal.main_arg1) (ix2 t n)) = (r : EReal) := fun t n => by
    have h := congrFun (hpre 0).2.1 (ix2 t n)
    rw [(harg 0).2.1] at h
    exact Math.coe_of_abs_lt _ h
  have hk : ∀ (j : Fin 32768) (h : Fin 8) (d : Fin 128), ∃ r : ℝ, (show EReal from m' (((0 : Dev Cert.ReferenceIdeal.nD) : Thread Cert.ReferenceIdeal.nD Cert.ReferenceIdeal.τ).loc Cert.ReferenceIdeal.main_arg2) (ix4 0 j h d)) = (r : EReal) := fun j h d => by
    let c : Fin 8 := ⟨j.val / 4096, by omega⟩
    let j' : Fin 4096 := ⟨j.val % 4096, Nat.mod_lt _ (by decide)⟩
    have hp := congrFun (hpre c).2.2 (ix4 0 j' h d)
    rw [(harg c).2.2.1] at hp
    obtain ⟨r, hr⟩ := Math.coe_of_abs_lt _ hp
    refine ⟨r, Eq.trans ?_ hr⟩
    refine Eq.trans ?_ (block_at _ c _ j' h d).symm
    exact congrArg _ (congrArg (fun z => ix4 0 z h d) (Fin.ext (by show j.val = j.val / 4096 * 4096 + j.val % 4096; omega)))
  choose X hX using hx
  choose W hW using hw
  choose K hK using hk
  obtain ⟨s, hs⟩ := Math.scale_coe
  refine ⟨_, (θ_run _ _ _).mono (fun r h c => ⟨(h.1 c).1.trans ?_, (h.1 c).2⟩) (Cert.KernelIdeal.Ring.run_arrays (F := Ideal) m g),
    (θ_run _ _ _).mono (fun r h => h 0) (Cert.ReferenceIdeal.Read.run m' g')⟩
  exact out_eq X W K s _ _ _ _ _ hX hW hK hs m g (by decide)
    (fun c => (xAt_eq m g c).trans (harg c).1) (fun c => (wqAt_eq m g c).trans (harg c).2.1) (fun c => (woAt_eq m g c).trans (harg c).2.2.2.2)
    (fun c => (harg c).2.2.1) (fun c => (harg c).2.2.2.1) c

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

/-- The certificate: the frames, with the precondition and without, the idealization, which rewrote nothing, and the value. -/
theorem claim : Cert.Claim := ⟨Cert.Kernel.Gen.facts, Cert.KernelIdeal.Gen.facts, Cert.ReferenceIdeal.Gen.facts, preK, preR,
  frame_kernel, frame_ideal, fun m g _ => frame_ideal m g trivial, frame_reference, fun m g _ => frame_reference m g trivial, trivial, value⟩

end Cert.Proof

end
